-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norm_w_is_finite [hPre_norm_w_is_finite : Cert.Pre_norm_w_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_norm_w_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norm_w_is_finite [hPre_norm_w_is_finite : Cert.Pre_norm_w_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norm_w_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_norm_w_is_finite [hKernelIdeal : Cert.KernelIdeal.Facts] [hPre_norm_w_is_finite : Cert.Pre_norm_w_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norm_w_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_norm_w_is_finite [hReferenceIdeal : Cert.ReferenceIdeal.Facts] [hPre_norm_w_is_finite : Cert.Pre_norm_w_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norm_w_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_norm_w_is_finite [hKernelIdeal : Cert.KernelIdeal.Facts] [hReferenceIdeal : Cert.ReferenceIdeal.Facts] [hPre_norm_w_is_finite : Cert.Pre_norm_w_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norm_w_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)) (v4 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_0) = v0 c
          ∧ r.2.mem ((c.tc : Thread Cert.ReferenceIdeal.nD Cert.ReferenceIdeal.τ).loc Cert.ReferenceIdeal.main_v12_1) = v1 c
          ∧ r.2.mem ((c.tc : Thread Cert.ReferenceIdeal.nD Cert.ReferenceIdeal.τ).loc Cert.ReferenceIdeal.main_v12_2) = v2 c
          ∧ r.2.mem ((c.tc : Thread Cert.ReferenceIdeal.nD Cert.ReferenceIdeal.τ).loc Cert.ReferenceIdeal.main_v12_3) = v3 c
          ∧ r.2.mem ((c.tc : Thread Cert.ReferenceIdeal.nD Cert.ReferenceIdeal.τ).loc Cert.ReferenceIdeal.main_v12_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_norm_w_is_finite : Cert.Pre_norm_w_is_finite.Facts),
    quiescent_Kernel (hKernel := hKernel)
    ∧ quiescent_KernelIdeal (hKernelIdeal := hKernelIdeal)
    ∧ quiescent_KernelIdeal_pre_norm_w_is_finite (hKernelIdeal := hKernelIdeal) (hPre_norm_w_is_finite := hPre_norm_w_is_finite)
    ∧ quiescent_ReferenceIdeal (hReferenceIdeal := hReferenceIdeal)
    ∧ quiescent_ReferenceIdeal_pre_norm_w_is_finite (hReferenceIdeal := hReferenceIdeal) (hPre_norm_w_is_finite := hPre_norm_w_is_finite)
    ∧ preserves_Kernel_KernelIdeal
    ∧ algebraic_KernelIdeal_ReferenceIdeal_pre_norm_w_is_finite (hKernelIdeal := hKernelIdeal) (hReferenceIdeal := hReferenceIdeal) (hPre_norm_w_is_finite := hPre_norm_w_is_finite)
-- ==== Pre_norm_w_is_finite.lean ====
abbrev S256x1x7168 : Shape := ⟨3, ![256, 1, 7168]⟩
abbrev S7168 : Shape := ⟨1, ![7168]⟩
abbrev S7168x9216 : Shape := ⟨2, ![7168, 9216]⟩
abbrev S9216 : Shape := ⟨1, ![9216]⟩
abbrev S256x1 : Shape := ⟨2, ![256, 1]⟩
abbrev S_ : Shape := ⟨0, ![]⟩

class Facts : Prop where
  bitsLt_bf16_f32 : FTy.bits .bf16 < FTy.bits .f32
  bcast_S_S7168 : S_.BroadcastsInDim S7168 (![] : Fin 0 → Fin S7168.rank)

variable [Facts]

def fn {F : FTy → Type} [FloatOps F] (main_arg0 : FVec F S256x1x7168 .bf16) (main_arg1 : FVec F S7168 .bf16) (main_arg2 : FVec F S7168x9216 .fp8e4m3) (main_arg3 : FVec F S9216 .f32) (main_arg4 : IVec S256x1 32) : IVec S7168 1 :=
  let main_v0 : FVec F S7168 .f32 := (extf .f32 · bitsLt_bf16_f32) main_arg1
  let main_v1 : FVec F S7168 .f32 := Host.absf main_v0
  let main_cst : FVec F S_ .f32 := constant S_ .f32 0x7F7F0000#32
  let main_v2 : FVec F S7168 .f32 := broadcastInDim S7168 ![] bcast_S_S7168 main_cst
  let main_v3 : IVec S7168 1 := cmpf .ole main_v1 main_v2
  main_v3
-- ==== Kernel.lean ====
abbrev S256x1x7168 : Shape := ⟨3, ![256, 1, 7168]⟩
abbrev S7168 : Shape := ⟨1, ![7168]⟩
abbrev S7168x9216 : Shape := ⟨2, ![7168, 9216]⟩
abbrev S9216 : Shape := ⟨1, ![9216]⟩
abbrev S256x1 : Shape := ⟨2, ![256, 1]⟩
abbrev S64 : Shape := ⟨1, ![64]⟩
abbrev S_ : Shape := ⟨0, ![]⟩
abbrev S128 : Shape := ⟨1, ![128]⟩
abbrev S1x128 : Shape := ⟨2, ![1, 128]⟩
abbrev S256x7168 : Shape := ⟨2, ![256, 7168]⟩
abbrev S1x7168 : Shape := ⟨2, ![1, 7168]⟩
abbrev S1x9216 : Shape := ⟨2, ![1, 9216]⟩
abbrev S256x9216 : Shape := ⟨2, ![256, 9216]⟩
abbrev S256x56 : Shape := ⟨2, ![256, 56]⟩
abbrev S7168x1024 : Shape := ⟨2, ![7168, 1024]⟩
abbrev S1x1024 : Shape := ⟨2, ![1, 1024]⟩
abbrev S256x1024 : Shape := ⟨2, ![256, 1024]⟩
abbrev S256x128 : Shape := ⟨2, ![256, 128]⟩
abbrev S32x7168 : Shape := ⟨2, ![32, 7168]⟩
abbrev S32 : Shape := ⟨1, ![32]⟩
abbrev S32x1 : Shape := ⟨2, ![32, 1]⟩
abbrev S32x128 : Shape := ⟨2, ![32, 128]⟩
abbrev S32x256 : Shape := ⟨2, ![32, 256]⟩
abbrev S32x56 : Shape := ⟨2, ![32, 56]⟩
abbrev S256x1x56x128 : Shape := ⟨4, ![256, 1, 56, 128]⟩
abbrev S256x1x8x128 : Shape := ⟨4, ![256, 1, 8, 128]⟩
abbrev S256x1x56 : Shape := ⟨3, ![256, 1, 56]⟩

abbrev nBuf : Space → Nat
  | .hbm => 32
  | .vmem => 15
  | .smem => 0
  | _ => 0

abbrev bufTy : (tb : Table) → Fin (tcTables nBuf tb) → BufTy
  | .hbm, ⟨0, _⟩ => ⟨S256x1x7168, .bf16⟩
  | .hbm, ⟨1, _⟩ => ⟨S7168, .bf16⟩
  | .hbm, ⟨2, _⟩ => ⟨S7168x9216, .fp8e4m3⟩
  | .hbm, ⟨3, _⟩ => ⟨S9216, .f32⟩
  | .hbm, ⟨4, _⟩ => ⟨S256x1, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S128, .f32⟩
  | .hbm, ⟨17, _⟩ => ⟨S1x128, .f32⟩
  | .hbm, ⟨18, _⟩ => ⟨S256x7168, .bf16⟩
  | .hbm, ⟨19, _⟩ => ⟨S1x7168, .bf16⟩
  | .hbm, ⟨20, _⟩ => ⟨S1x9216, .f32⟩
  | .hbm, ⟨21, _⟩ => ⟨S256x9216, .bf16⟩
  | .hbm, ⟨22, _⟩ => ⟨S256x7168, .fp8e4m3⟩
  | .hbm, ⟨23, _⟩ => ⟨S256x56, .f32⟩
  | .hbm, ⟨24, _⟩ => ⟨S256x7168, .bf16⟩
  | .hbm, ⟨25, _⟩ => ⟨S256x1x56x128, .bf16⟩
  | .hbm, ⟨26, _⟩ => ⟨S256x1024, .bf16⟩
  | .hbm, ⟨27, _⟩ => ⟨S256x1x8x128, .bf16⟩
  | .hbm, ⟨28, _⟩ => ⟨S256x1024, .bf16⟩
  | .hbm, ⟨29, _⟩ => ⟨S256x1x8x128, .bf16⟩
  | .hbm, ⟨30, _⟩ => ⟨S256x1x7168, .fp8e4m3⟩
  | .hbm, ⟨31, _⟩ => ⟨S256x1x56, .f32⟩
  | .local _ .vmem, ⟨0, _⟩ => ⟨S256x7168, .bf16⟩
  | .local _ .vmem, ⟨1, _⟩ => ⟨S1x7168, .bf16⟩
  | .local _ .vmem, ⟨2, _⟩ => ⟨S7168x1024, .fp8e4m3⟩
  | .local _ .vmem, ⟨3, _⟩ => ⟨S7168x1024, .fp8e4m3⟩
  | .local _ .vmem, ⟨4, _⟩ => ⟨S1x1024, .f32⟩
  | .local _ .vmem, ⟨5, _⟩ => ⟨S1x1024, .f32⟩
  | .local _ .vmem, ⟨6, _⟩ => ⟨S256x1, .i32⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | .local _ .vmem, ⟨10, _⟩ => ⟨S256x7168, .fp8e4m3⟩
  | .local _ .vmem, ⟨11, _⟩ => ⟨S256x56, .f32⟩
  | .local _ .vmem, ⟨12, _⟩ => ⟨S256x7168, .bf16⟩
  | .local _ .vmem, ⟨13, _⟩ => ⟨S256x128, .f32⟩
  | .local _ .vmem, ⟨14, _⟩ => ⟨S256x128, .f32⟩
  | _, _ => ⟨S256x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_9 : BitVec 32 := 0#32
  let c8_i32_10 : BitVec 32 := 8#32
  let v17 : BitVec 32 := Scalar.addi c0_i32_9 c8_i32_10
  let c1_i32 : BitVec 32 := 1#32
  ⟨c0_i32_9, v17, c1_i32⟩
def k0_off1 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v41 : Index := Scalar.indexCast v40
  let c0_21 : Index := 0#32
  ![v41.toNat, 0]
def k0_off2 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v55 : Index := Scalar.indexCast v40
  let c0_26 : Index := 0#32
  ![v55.toNat, 0]
def k0_off3 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v115 : Index := Scalar.indexCast v40
  let c128 : Index := 128#32
  ![v115.toNat, 128]
def k0_off4 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v175 : Index := Scalar.indexCast v40
  let c256 : Index := 256#32
  ![v175.toNat, 256]
def k0_off5 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v235 : Index := Scalar.indexCast v40
  let c384 : Index := 384#32
  ![v235.toNat, 384]
def k0_off6 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v295 : Index := Scalar.indexCast v40
  let c512 : Index := 512#32
  ![v295.toNat, 512]
def k0_off7 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v355 : Index := Scalar.indexCast v40
  let c640 : Index := 640#32
  ![v355.toNat, 640]
def k0_off8 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v415 : Index := Scalar.indexCast v40
  let c768 : Index := 768#32
  ![v415.toNat, 768]
def k0_off9 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v475 : Index := Scalar.indexCast v40
  let c896 : Index := 896#32
  ![v475.toNat, 896]
def k0_off10 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v535 : Index := Scalar.indexCast v40
  let c1024 : Index := 1024#32
  ![v535.toNat, 1024]
def k0_off11 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v595 : Index := Scalar.indexCast v40
  let c1152 : Index := 1152#32
  ![v595.toNat, 1152]
def k0_off12 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v655 : Index := Scalar.indexCast v40
  let c1280 : Index := 1280#32
  ![v655.toNat, 1280]
def k0_off13 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v715 : Index := Scalar.indexCast v40
  let c1408 : Index := 1408#32
  ![v715.toNat, 1408]
def k0_off14 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v775 : Index := Scalar.indexCast v40
  let c1536 : Index := 1536#32
  ![v775.toNat, 1536]
def k0_off15 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v835 : Index := Scalar.indexCast v40
  let c1664 : Index := 1664#32
  ![v835.toNat, 1664]
def k0_off16 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v895 : Index := Scalar.indexCast v40
  let c1792 : Index := 1792#32
  ![v895.toNat, 1792]
def k0_off17 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v955 : Index := Scalar.indexCast v40
  let c1920 : Index := 1920#32
  ![v955.toNat, 1920]
def k0_off18 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1015 : Index := Scalar.indexCast v40
  let c2048 : Index := 2048#32
  ![v1015.toNat, 2048]
def k0_off19 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1075 : Index := Scalar.indexCast v40
  let c2176 : Index := 2176#32
  ![v1075.toNat, 2176]
def k0_off20 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1135 : Index := Scalar.indexCast v40
  let c2304 : Index := 2304#32
  ![v1135.toNat, 2304]
def k0_off21 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1195 : Index := Scalar.indexCast v40
  let c2432 : Index := 2432#32
  ![v1195.toNat, 2432]
def k0_off22 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1255 : Index := Scalar.indexCast v40
  let c2560 : Index := 2560#32
  ![v1255.toNat, 2560]
def k0_off23 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1315 : Index := Scalar.indexCast v40
  let c2688 : Index := 2688#32
  ![v1315.toNat, 2688]
def k0_off24 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1375 : Index := Scalar.indexCast v40
  let c2816 : Index := 2816#32
  ![v1375.toNat, 2816]
def k0_off25 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1435 : Index := Scalar.indexCast v40
  let c2944 : Index := 2944#32
  ![v1435.toNat, 2944]
def k0_off26 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1495 : Index := Scalar.indexCast v40
  let c3072 : Index := 3072#32
  ![v1495.toNat, 3072]
def k0_off27 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1555 : Index := Scalar.indexCast v40
  let c3200 : Index := 3200#32
  ![v1555.toNat, 3200]
def k0_off28 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1615 : Index := Scalar.indexCast v40
  let c3328 : Index := 3328#32
  ![v1615.toNat, 3328]
def k0_off29 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1675 : Index := Scalar.indexCast v40
  let c3456 : Index := 3456#32
  ![v1675.toNat, 3456]
def k0_off30 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1735 : Index := Scalar.indexCast v40
  let c3584 : Index := 3584#32
  ![v1735.toNat, 3584]
def k0_off31 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1795 : Index := Scalar.indexCast v40
  let c3712 : Index := 3712#32
  ![v1795.toNat, 3712]
def k0_off32 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1855 : Index := Scalar.indexCast v40
  let c3840 : Index := 3840#32
  ![v1855.toNat, 3840]
def k0_off33 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1915 : Index := Scalar.indexCast v40
  let c3968 : Index := 3968#32
  ![v1915.toNat, 3968]
def k0_off34 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v1975 : Index := Scalar.indexCast v40
  let c4096 : Index := 4096#32
  ![v1975.toNat, 4096]
def k0_off35 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2035 : Index := Scalar.indexCast v40
  let c4224 : Index := 4224#32
  ![v2035.toNat, 4224]
def k0_off36 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2095 : Index := Scalar.indexCast v40
  let c4352 : Index := 4352#32
  ![v2095.toNat, 4352]
def k0_off37 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2155 : Index := Scalar.indexCast v40
  let c4480 : Index := 4480#32
  ![v2155.toNat, 4480]
def k0_off38 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2215 : Index := Scalar.indexCast v40
  let c4608 : Index := 4608#32
  ![v2215.toNat, 4608]
def k0_off39 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2275 : Index := Scalar.indexCast v40
  let c4736 : Index := 4736#32
  ![v2275.toNat, 4736]
def k0_off40 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2335 : Index := Scalar.indexCast v40
  let c4864 : Index := 4864#32
  ![v2335.toNat, 4864]
def k0_off41 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2395 : Index := Scalar.indexCast v40
  let c4992 : Index := 4992#32
  ![v2395.toNat, 4992]
def k0_off42 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2455 : Index := Scalar.indexCast v40
  let c5120 : Index := 5120#32
  ![v2455.toNat, 5120]
def k0_off43 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2515 : Index := Scalar.indexCast v40
  let c5248 : Index := 5248#32
  ![v2515.toNat, 5248]
def k0_off44 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2575 : Index := Scalar.indexCast v40
  let c5376 : Index := 5376#32
  ![v2575.toNat, 5376]
def k0_off45 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2635 : Index := Scalar.indexCast v40
  let c5504 : Index := 5504#32
  ![v2635.toNat, 5504]
def k0_off46 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2695 : Index := Scalar.indexCast v40
  let c5632 : Index := 5632#32
  ![v2695.toNat, 5632]
def k0_off47 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2755 : Index := Scalar.indexCast v40
  let c5760 : Index := 5760#32
  ![v2755.toNat, 5760]
def k0_off48 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2815 : Index := Scalar.indexCast v40
  let c5888 : Index := 5888#32
  ![v2815.toNat, 5888]
def k0_off49 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2875 : Index := Scalar.indexCast v40
  let c6016 : Index := 6016#32
  ![v2875.toNat, 6016]
def k0_off50 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2935 : Index := Scalar.indexCast v40
  let c6144 : Index := 6144#32
  ![v2935.toNat, 6144]
def k0_off51 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v2995 : Index := Scalar.indexCast v40
  let c6272 : Index := 6272#32
  ![v2995.toNat, 6272]
def k0_off52 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v3055 : Index := Scalar.indexCast v40
  let c6400 : Index := 6400#32
  ![v3055.toNat, 6400]
def k0_off53 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v3115 : Index := Scalar.indexCast v40
  let c6528 : Index := 6528#32
  ![v3115.toNat, 6528]
def k0_off54 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v3175 : Index := Scalar.indexCast v40
  let c6656 : Index := 6656#32
  ![v3175.toNat, 6656]
def k0_off55 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v3235 : Index := Scalar.indexCast v40
  let c6784 : Index := 6784#32
  ![v3235.toNat, 6784]
def k0_off56 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v3295 : Index := Scalar.indexCast v40
  let c6912 : Index := 6912#32
  ![v3295.toNat, 6912]
def k0_off57 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v3355 : Index := Scalar.indexCast v40
  let c7040 : Index := 7040#32
  ![v3355.toNat, 7040]
def k0_off58 (k0_t1 : Fin k0_t1_loop.trips) : Fin 2 → Nat :=
  let c0_i32_9 : BitVec 32 := 0#32
  let c1_i32 : BitVec 32 := 1#32
  let arg13 : BitVec 32 := Scf.iv c0_i32_9 c1_i32 k0_t1
  let c32_i32 : BitVec 32 := 32#32
  let v40 : BitVec 32 := Scalar.muli arg13 c32_i32
  let v3416 : Index := Scalar.indexCast v40
  let c0_925 : Index := 0#32
  ![v3416.toNat, 0]
def k0_cond2 (i : grid0.Coords) : BitVec 1 :=
  let arg0 : BitVec 32 := BitVec.ofNat 32 (i 0).val
  let c8_i32 : BitVec 32 := 8#32
  let v11 : BitVec 1 := Scalar.cmpi .slt arg0 c8_i32
  let v12 : BitVec 32 := Scalar.extui v11
  let c0_i32_6 : BitVec 32 := 0#32
  let v13 : BitVec 1 := Scalar.cmpi .ne v12 c0_i32_6
  v13

def k0_cond3 (i : grid0.Coords) : BitVec 1 :=
  let arg0 : BitVec 32 := BitVec.ofNat 32 (i 0).val
  let c8_i32_7 : BitVec 32 := 8#32
  let v14 : BitVec 1 := Scalar.cmpi .sge arg0 c8_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x56 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S256x1x7168 : Shape := ⟨3, ![256, 1, 7168]⟩
abbrev S7168 : Shape := ⟨1, ![7168]⟩
abbrev S7168x9216 : Shape := ⟨2, ![7168, 9216]⟩
abbrev S9216 : Shape := ⟨1, ![9216]⟩
abbrev S256x1 : Shape := ⟨2, ![256, 1]⟩
abbrev S64 : Shape := ⟨1, ![64]⟩
abbrev S_ : Shape := ⟨0, ![]⟩
abbrev S256x7168 : Shape := ⟨2, ![256, 7168]⟩
abbrev S1x7168 : Shape := ⟨2, ![1, 7168]⟩
abbrev S1x9216 : Shape := ⟨2, ![1, 9216]⟩
abbrev S1x64 : Shape := ⟨2, ![1, 64]⟩
abbrev S256x1x56x128 : Shape := ⟨4, ![256, 1, 56, 128]⟩
abbrev S256x1x8x128 : Shape := ⟨4, ![256, 1, 8, 128]⟩
abbrev S256x1x56 : Shape := ⟨3, ![256, 1, 56]⟩
abbrev S256 : Shape := ⟨1, ![256]⟩
abbrev S256x56x128 : Shape := ⟨3, ![256, 56, 128]⟩
abbrev S256x56 : Shape := ⟨2, ![256, 56]⟩
abbrev S256x56x1 : Shape := ⟨3, ![256, 56, 1]⟩
abbrev S256x9216 : Shape := ⟨2, ![256, 9216]⟩
abbrev S256x1024 : Shape := ⟨2, ![256, 1024]⟩
abbrev S256x8x128 : Shape := ⟨3, ![256, 8, 128]⟩
abbrev S256x64 : Shape := ⟨2, ![256, 64]⟩
abbrev S256x1x64 : Shape := ⟨3, ![256, 1, 64]⟩
abbrev S256x56x64 : Shape := ⟨3, ![256, 56, 64]⟩
abbrev S256x8x64 : Shape := ⟨3, ![256, 8, 64]⟩

abbrev nBuf : Space → Nat
  | .hbm => 25
  | .vmem => 11
  | .smem => 0
  | _ => 0

abbrev bufTy : (tb : Table) → Fin (tcTables nBuf tb) → BufTy
  | .hbm, ⟨0, _⟩ => ⟨S256x1x7168, .bf16⟩
  | .hbm, ⟨1, _⟩ => ⟨S7168, .bf16⟩
  | .hbm, ⟨2, _⟩ => ⟨S7168x9216, .fp8e4m3⟩
  | .hbm, ⟨3, _⟩ => ⟨S9216, .f32⟩
  | .hbm, ⟨4, _⟩ => ⟨S256x1, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S256x7168, .bf16⟩
  | .hbm, ⟨17, _⟩ => ⟨S1x7168, .bf16⟩
  | .hbm, ⟨18, _⟩ => ⟨S1x9216, .f32⟩
  | .hbm, ⟨19, _⟩ => ⟨S1x64, .f32⟩
  | .hbm, ⟨20, _⟩ => ⟨S256x1x56x128, .bf16⟩
  | .hbm, ⟨21, _⟩ => ⟨S256x1x8x128, .bf16⟩
  | .hbm, ⟨22, _⟩ => ⟨S256x1x8x128, .bf16⟩
  | .hbm, ⟨23, _⟩ => ⟨S256x1x7168, .fp8e4m3⟩
  | .hbm, ⟨24, _⟩ => ⟨S256x1x56, .f32⟩
  | .local _ .vmem, ⟨0, _⟩ => ⟨S256x7168, .bf16⟩
  | .local _ .vmem, ⟨1, _⟩ => ⟨S1x7168, .bf16⟩
  | .local _ .vmem, ⟨2, _⟩ => ⟨S7168x9216, .fp8e4m3⟩
  | .local _ .vmem, ⟨3, _⟩ => ⟨S1x9216, .f32⟩
  | .local _ .vmem, ⟨4, _⟩ => ⟨S256x1, .i32⟩
  | .local _ .vmem, ⟨5, _⟩ => ⟨S1x64, .f32⟩
  | .local _ .vmem, ⟨6, _⟩ => ⟨S256x1x56x128, .bf16⟩
  | .local _ .vmem, ⟨7, _⟩ => ⟨S256x1x8x128, .bf16⟩
  | .local _ .vmem, ⟨8, _⟩ => ⟨S256x1x8x128, .bf16⟩
  | .local _ .vmem, ⟨9, _⟩ => ⟨S256x1x7168, .fp8e4m3⟩
  | .local _ .vmem, ⟨10, _⟩ => ⟨S256x1x56, .f32⟩
  | _, _ => ⟨S256x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x9216 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1x56x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1x8x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1x56 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Bits.Runs.lean ====
/- What the runs of `Kernel`, the program over bits, share: @main around the region and the body's branch conditions. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines before the region allocate nothing. -/
theorem hostOps0_fresh : (hostOps0 : List (HloOp τ sig (Elt F))).Forall fun op => op.fresh = ∅ := by
  simp only [List.Forall]; repeat' constructor
/-- The host lines after the region allocate nothing. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v14, main_v15, main_v16, main_v17, main_v18, main_v19, main_v20, main_v21}
/-- They write no other buffers than these. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      (Pipeline.RDat.FramePostR.arr_in h c 4 rfl).trans ((hA c 4).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, k0_cond1, e0]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the points before point 8 — decided over the grid. -/
theorem hcond0_1 : ∀ t : Fin cfg0.N, cond0_1 (grid0.coords t) ↔ t.val < 8 :=
  (by decide +kernel : ∀ t : Fin grid0.N, cond0_1 (grid0.coords t) ↔ t.val < 8)

/-- The condition of the body's `scf.if` 2 (`k0_h3`), from the grid coordinates (the skeleton's scalar
    chain substituted). -/
abbrev cond0_2 (i : grid0.Coords) : Prop := k0_cond3 i = 1#1
/-- It holds at the last point only — decided over the grid. -/
theorem hcond0_2 : ∀ t : Fin cfg0.N, cond0_2 (grid0.coords t) ↔ t.val % 9 = 8 :=
  (by decide +kernel : ∀ t : Fin grid0.N, cond0_2 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x7168 .bf16 := win0_0.stage (cfg0.slots t 0)
/-- It is a whole buffer. -/
abbrev hs0_0 (t : Fin cfg0.N) : (ms0_0 t).IsWhole := hstage0_0 ((cfg0.slots t 0).cast nbuf0_0)
/-- The buffer of window 1 at point `t`. -/
abbrev ms0_1 (t : Fin cfg0.N) : Memref sig .tc .vmem S1x7168 .bf16 := win0_1.stage (cfg0.slots t 1)
/-- It is a whole buffer. -/
abbrev hs0_1 (t : Fin cfg0.N) : (ms0_1 t).IsWhole := hstage0_1 ((cfg0.slots t 1).cast nbuf0_1)
/-- The buffer of window 2 at point `t`. -/
abbrev ms0_2 (t : Fin cfg0.N) : Memref sig .tc .vmem S7168x1024 .fp8e4m3 := win0_2.stage (cfg0.slots t 2)
/-- It is a whole buffer. -/
abbrev hs0_2 (t : Fin cfg0.N) : (ms0_2 t).IsWhole := hstage0_2 ((cfg0.slots t 2).cast nbuf0_2)
/-- The buffer of window 3 at point `t`. -/
abbrev ms0_3 (t : Fin cfg0.N) : Memref sig .tc .vmem S1x1024 .f32 := win0_3.stage (cfg0.slots t 3)
/-- It is a whole buffer. -/
abbrev hs0_3 (t : Fin cfg0.N) : (ms0_3 t).IsWhole := hstage0_3 ((cfg0.slots t 3).cast nbuf0_3)
/-- The buffer of window 4 at point `t`. -/
abbrev ms0_4 (t : Fin cfg0.N) : Memref sig .tc .vmem S256x1 .i32 := win0_4.stage (cfg0.slots t 4)
/-- It is a whole buffer. -/
abbrev hs0_4 (t : Fin cfg0.N) : (ms0_4 t).IsWhole := hstage0_4 ((cfg0.slots t 4).cast nbuf0_4)
/-- The buffer of window 5 at point `t`. -/
abbrev ms0_5 (t : Fin cfg0.N) : Memref sig .tc .vmem S1x128 .f32 := win0_5.stage (cfg0.slots t 5)
/-- It is a whole buffer. -/
abbrev hs0_5 (t : Fin cfg0.N) : (ms0_5 t).IsWhole := hstage0_5 ((cfg0.slots t 5).cast nbuf0_5)
/-- The buffer of window 6 at point `t`. -/
abbrev ms0_6 (t : Fin cfg0.N) : Memref sig .tc .vmem S256x1024 .bf16 := win0_6.stage (cfg0.slots t 6)
/-- It is a whole buffer. -/
abbrev hs0_6 (t : Fin cfg0.N) : (ms0_6 t).IsWhole := hstage0_6 ((cfg0.slots t 6).cast nbuf0_6)
/-- The buffer of window 7 at point `t`. -/
abbrev ms0_7 (t : Fin cfg0.N) : Memref sig .tc .vmem S256x7168 .fp8e4m3 := win0_7.stage (cfg0.slots t 7)
/-- It is a whole buffer. -/
abbrev hs0_7 (t : Fin cfg0.N) : (ms0_7 t).IsWhole := hstage0_7 ((cfg0.slots t 7).cast nbuf0_7)
/-- The buffer of window 8 at point `t`. -/
abbrev ms0_8 (t : Fin cfg0.N) : Memref sig .tc .vmem S256x56 .f32 := win0_8.stage (cfg0.slots t 8)
/-- It is a whole buffer. -/
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x7168 .bf16 := Memref.whole cc0_scratch0
/-- Scratch buffer 1. -/
abbrev scM0_1 : Memref sig .tc .vmem S256x128 .f32 := Memref.whole cc0_scratch1
/-- Scratch buffer 2. -/
abbrev scM0_2 : Memref sig .tc .vmem S256x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Run

end
-- ==== Proof.Bits.RunA.lean ====
/- The body of `Kernel` at the first point of the grid. -/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken, `scf.if` 2 not taken: points 0): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11 arg12 harg12) K := by
    intro E K
    simp only [cc0_qkv_rope_eq_skeleton]; unfold cc0_qkv_rope_skel
    simp only [k0_part77_eq_skeleton, k0_part78_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Run

end
-- ==== Proof.Bits.RunB.lean ====
/- The body of `Kernel` at a point that rotates. -/
module

public import proofs.«01_k».proof.Proof.Bits.RunA

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 taken, `scf.if` 2 not taken: points 1, 2, … 7: 7 of 9): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11 arg12 harg12) K := by
    intro E K
    simp only [cc0_qkv_rope_eq_skeleton]; unfold cc0_qkv_rope_skel
    simp only [k0_part77_eq_skeleton, k0_part78_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Run

end
-- ==== Proof.Bits.RunC.lean ====
/- The body of `Kernel` at a point that does not rotate. -/
module

public import proofs.«01_k».proof.Proof.Bits.RunB

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 not taken, `scf.if` 2 taken: points 8): on whole staging memrefs — the inputs' at their contents,
    the FORGOTTEN outputs' (6, 7, 8) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11 arg12 harg12) K := by
    intro E K
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Run

end
-- ==== Proof.Bits.Frame.lean ====
/- The frame of `Kernel`, the program over bits: it runs, keeps its arguments and leaves every counter at zero. Nothing is
   said of what its outputs hold. -/
module

public import proofs.«01_k».proof.Proof.Bits.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8): nothing reads what the kernel leaves in them, so nothing
    of it is named (Lib/Pipeline/Dat.lean `Dat.toRForget`). -/
def forgets0 : Fin 9 → Bool := fun w => w.val == 6 || w.val == 7 || w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the body finds in window 1. -/
theorem before0_1 (c : Dev nD) (t : Fin cfg0.N) (d) : (dats m 0 c).before 1 t d = iblk m c 1 t :=
  before0_1_of m (dats m 0 c) (A_eq m c 1) (after0_1 m c) t d
/-- What the body finds in window 2. -/
theorem before0_2 (c : Dev nD) (t : Fin cfg0.N) (d) : (dats m 0 c).before 2 t d = iblk m c 2 t :=
  before0_2_of m (dats m 0 c) (A_eq m c 2) (after0_2 m c) t d
/-- What the body finds in window 3. -/
theorem before0_3 (c : Dev nD) (t : Fin cfg0.N) (d) : (dats m 0 c).before 3 t d = iblk m c 3 t :=
  before0_3_of m (dats m 0 c) (A_eq m c 3) (after0_3 m c) t d
/-- What the body finds in window 4. -/
theorem before0_4 (c : Dev nD) (t : Fin cfg0.N) (d) : (dats m 0 c).before 4 t d = iblk m c 4 t :=
  before0_4_of m (dats m 0 c) (A_eq m c 4) (after0_4 m c) t d
/-- What the body finds in window 5. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 3600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 9 := lt_of_lt_of_eq t.isLt (show cfg0.N = 9 from N_0)
  by_cases h0 : t.val % 9 = 0
  · by_cases h1 : t.val < 8
    · by_cases h2 : t.val % 9 = 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        isplitl [HS2]; · iexact HS2
        iintro ⟨H0, H1, H2, H3, H4, H5, H6, H7, H8, HS0, HS1, HS2⟩
        isplitl [HS0 HS1 HS2 Hg]
        · isplitl [HS0 HS1 HS2]
          · isplitl [HS0]
            · iexact HS0
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
    · exfalso; omega
  · by_cases h1 : t.val < 8
    · by_cases h2 : t.val % 9 = 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        isplitl [HS2]; · iexact HS2
        iintro ⟨H0, H1, H2, H3, H4, H5, H6, H7, H8, HS0, HS1, HS2⟩
        isplitl [HS0 HS1 HS2 Hg]
        · isplitl [HS0 HS1 HS2]
          · isplitl [HS0]
            · iexact HS0
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
    · by_cases h2 : t.val % 9 = 8
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        isplitl [HS2]; · iexact HS2
        iintro ⟨H0, H1, H2, H3, H4, H5, H6, H7, H8, HS0, HS1, HS2⟩
        isplitl [HS0 HS1 HS2 Hg]
        · isplitl [HS0 HS1 HS2]
          · isplitl [HS0]
            · iexact HS0
            isplitl [HS1]
            · iexact HS1
            iexact HS2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame, at any `F`: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Run

end
-- ==== Proof.Run.Facts.lean ====
/- What the body's runs share: its branch conditions over the grid's points, the points where a window is idle, the staging and scratch memrefs. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, k0_cond1, e0]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the points before point 8 — decided over the grid. -/
theorem hcond0_1 : ∀ t : Fin cfg0.N, cond0_1 (grid0.coords t) ↔ t.val < 8 :=
  (by decide +kernel : ∀ t : Fin grid0.N, cond0_1 (grid0.coords t) ↔ t.val < 8)

/-- The condition of the body's `scf.if` 2 (`k0_h3`), from the grid coordinates (the skeleton's scalar
    chain substituted). -/
abbrev cond0_2 (i : grid0.Coords) : Prop := k0_cond3 i = 1#1
/-- It holds at the last point only — decided over the grid. -/
theorem hcond0_2 : ∀ t : Fin cfg0.N, cond0_2 (grid0.coords t) ↔ t.val % 9 = 8 :=
  (by decide +kernel : ∀ t : Fin grid0.N, cond0_2 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 live: the case stores into it. -/
theorem liveAt0_6_A : ∀ t : Fin cfg0.N, cond0_0 (grid0.coords t) → cond0_1 (grid0.coords t) → ¬cond0_2 (grid0.coords t) → cfg0.idle 6 (grid0.coords t) = false := by decide +kernel
/-- At the points of case B the printed configuration (`Cfg.idle`) calls output 6 live: the case stores into it. -/
theorem liveAt0_6_B : ∀ t : Fin cfg0.N, ¬cond0_0 (grid0.coords t) → cond0_1 (grid0.coords t) → ¬cond0_2 (grid0.coords t) → cfg0.idle 6 (grid0.coords t) = false := by decide +kernel
/-- At the points of case C the printed configuration (`Cfg.idle`) calls output 6 live: the case stores into it. -/
theorem liveAt0_6_C : ∀ t : Fin cfg0.N, ¬cond0_0 (grid0.coords t) → ¬cond0_1 (grid0.coords t) → cond0_2 (grid0.coords t) → cfg0.idle 6 (grid0.coords t) = false := by decide +kernel
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x100 : ℕ).testBit n
/-- The table of window 7 keeps to the rule of when a buffer is fresh. -/
theorem freshTab0_7_step : ∀ t : Fin cfg0.N,
    freshTab0_7 (t.val + 1) = ((cfg0.win 7).flush t || (cfg0.idle 7 (cfg0.grid.coords t) && freshTab0_7 t.val)) := by decide +kernel
/-- Where window 7 starts on a fresh buffer, read off its table. -/
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → cond0_1 (grid0.coords t) → ¬cond0_2 (grid0.coords t) → cfg0.idle 7 (grid0.coords t) = false := by decide +kernel
/-- At the points of case B the printed configuration (`Cfg.idle`) calls output 7 idle: the case stores nothing into it. -/
theorem idleAt0_7_B : ∀ t : Fin cfg0.N, ¬cond0_0 (grid0.coords t) → cond0_1 (grid0.coords t) → ¬cond0_2 (grid0.coords t) → cfg0.idle 7 (grid0.coords t) = true := by decide +kernel
/-- At the points of case B the pipeline does not write output 7's block back. -/
theorem noFlush0_7_B : ∀ t : Fin cfg0.N, ¬cond0_0 (grid0.coords t) → cond0_1 (grid0.coords t) → ¬cond0_2 (grid0.coords t) → (cfg0.win 7).flush t = false := by decide +kernel
/-- At the points of case C the printed configuration (`Cfg.idle`) calls output 7 idle: the case stores nothing into it. -/
theorem idleAt0_7_C : ∀ t : Fin cfg0.N, ¬cond0_0 (grid0.coords t) → ¬cond0_1 (grid0.coords t) → cond0_2 (grid0.coords t) → cfg0.idle 7 (grid0.coords t) = true := by decide +kernel
/-- At the points of case C the pipeline writes output 7's block back. -/
theorem flushAt0_7_C : ∀ t : Fin cfg0.N, ¬cond0_0 (grid0.coords t) → ¬cond0_1 (grid0.coords t) → cond0_2 (grid0.coords t) → (cfg0.win 7).flush t = true := by decide +kernel
/-- At the points of case C, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_C : ∀ t : Fin cfg0.N, ¬cond0_0 (grid0.coords t) → ¬cond0_1 (grid0.coords t) → cond0_2 (grid0.coords t) → cfg0.fresh 7 t.val = false := by
  intro t; rw [fresh0_7_eq t]; revert t; decide +kernel
/-- Whether output 8's buffer is FRESH at each position `1 ‥ N` — holds nothing the body stored since the region's entry or the
    last write-back (written back at the point before, or idle there and fresh before it) —, as a bitmask the classifier
    computed, bit `n` for position `n + 1`; position 0 is fresh. `freshTab0_8_step` checks it against the configuration's own
    step point by point and Lib/Pipeline/TableIdle.lean `Cfg.fresh_tab` makes it `Cfg.fresh` (`fresh0_8_eq`). -/
def freshTab0_8 : ℕ → Bool
  | 0 => true
  | n + 1 => (0x100 : ℕ).testBit n
/-- The table of window 8 keeps to the rule of when a buffer is fresh. -/
theorem freshTab0_8_step : ∀ t : Fin cfg0.N,
    freshTab0_8 (t.val + 1) = ((cfg0.win 8).flush t || (cfg0.idle 8 (cfg0.grid.coords t) && freshTab0_8 t.val)) := by decide +kernel
/-- Where window 8 starts on a fresh buffer, read off its table. -/
theorem fresh0_8_eq (t : Fin cfg0.N) : cfg0.fresh 8 t.val = freshTab0_8 t.val :=
  Pipeline.Cfg.fresh_tab cfg0 8 freshTab0_8 rfl freshTab0_8_step t.val (Nat.le_of_lt t.isLt)
/-- At the points of case A the printed configuration (`Cfg.idle`) calls output 8 live: the case stores into it. -/
theorem liveAt0_8_A : ∀ t : Fin cfg0.N, cond0_0 (grid0.coords t) → cond0_1 (grid0.coords t) → ¬cond0_2 (grid0.coords t) → cfg0.idle 8 (grid0.coords t) = false := by decide +kernel
/-- At the points of case B the printed configuration (`Cfg.idle`) calls output 8 idle: the case stores nothing into it. -/
theorem idleAt0_8_B : ∀ t : Fin cfg0.N, ¬cond0_0 (grid0.coords t) → cond0_1 (grid0.coords t) → ¬cond0_2 (grid0.coords t) → cfg0.idle 8 (grid0.coords t) = true := by decide +kernel
/-- At the points of case B the pipeline does not write output 8's block back. -/
theorem noFlush0_8_B : ∀ t : Fin cfg0.N, ¬cond0_0 (grid0.coords t) → cond0_1 (grid0.coords t) → ¬cond0_2 (grid0.coords t) → (cfg0.win 8).flush t = false := by decide +kernel
/-- At the points of case C the printed configuration (`Cfg.idle`) calls output 8 idle: the case stores nothing into it. -/
theorem idleAt0_8_C : ∀ t : Fin cfg0.N, ¬cond0_0 (grid0.coords t) → ¬cond0_1 (grid0.coords t) → cond0_2 (grid0.coords t) → cfg0.idle 8 (grid0.coords t) = true := by decide +kernel
/-- At the points of case C the pipeline writes output 8's block back. -/
theorem flushAt0_8_C : ∀ t : Fin cfg0.N, ¬cond0_0 (grid0.coords t) → ¬cond0_1 (grid0.coords t) → cond0_2 (grid0.coords t) → (cfg0.win 8).flush t = true := by decide +kernel
/-- At the points of case C, which keeps output 8's prior contents (reads it before covering, or covers it in part), the
    window's buffer is not FRESH: something was stored into it since the region's entry or its last write-back, idle points
    between or not (Lib/Pipeline/TableIdle.lean `Cfg.fresh`, by the table `freshTab0_8`). -/
theorem notFresh0_8_C : ∀ t : Fin cfg0.N, ¬cond0_0 (grid0.coords t) → ¬cond0_1 (grid0.coords t) → cond0_2 (grid0.coords t) → cfg0.fresh 8 t.val = false := by
  intro t; rw [fresh0_8_eq t]; revert t; decide +kernel

/-! ## The kernel body on any staging memrefs: a subtype the run finds -/

/-- One staging buffer of output window 6, through which its contents are stated (`View.read_writes_of_cover`: the
    choice does not matter). -/
abbrev VO0_6 : View sig .tc .vmem S256x1024 .bf16 := (Memref.whole cc0_stg6_0 : Memref sig .tc .vmem S256x1024 .bf16).view
/-- One staging buffer of output window 7, through which its contents are stated (`View.read_writes_of_cover`: the
    choice does not matter). -/
abbrev VO0_7 : View sig .tc .vmem S256x7168 .fp8e4m3 := (Memref.whole cc0_stg7_0 : Memref sig .tc .vmem S256x7168 .fp8e4m3).view
/-- One staging buffer of output window 8, through which its contents are stated (`View.read_writes_of_cover`: the
    choice does not matter). -/
abbrev VO0_8 : View sig .tc .vmem S256x56 .f32 := (Memref.whole cc0_stg8_0 : Memref sig .tc .vmem S256x56 .f32).view
/-- Each window's current staging memref at point `t`, spelled as the pipeline passes it (`bodyAt0`), and its wholeness. -/
abbrev ms0_0 (t : Fin cfg0.N) : Memref sig .tc .vmem S256x7168 .bf16 := win0_0.stage (cfg0.slots t 0)
/-- It is a whole buffer. -/
abbrev hs0_0 (t : Fin cfg0.N) : (ms0_0 t).IsWhole := hstage0_0 ((cfg0.slots t 0).cast nbuf0_0)
/-- The buffer of window 1 at point `t`. -/
abbrev ms0_1 (t : Fin cfg0.N) : Memref sig .tc .vmem S1x7168 .bf16 := win0_1.stage (cfg0.slots t 1)
/-- It is a whole buffer. -/
abbrev hs0_1 (t : Fin cfg0.N) : (ms0_1 t).IsWhole := hstage0_1 ((cfg0.slots t 1).cast nbuf0_1)
/-- The buffer of window 2 at point `t`. -/
abbrev ms0_2 (t : Fin cfg0.N) : Memref sig .tc .vmem S7168x1024 .fp8e4m3 := win0_2.stage (cfg0.slots t 2)
/-- It is a whole buffer. -/
abbrev hs0_2 (t : Fin cfg0.N) : (ms0_2 t).IsWhole := hstage0_2 ((cfg0.slots t 2).cast nbuf0_2)
/-- The buffer of window 3 at point `t`. -/
abbrev ms0_3 (t : Fin cfg0.N) : Memref sig .tc .vmem S1x1024 .f32 := win0_3.stage (cfg0.slots t 3)
/-- It is a whole buffer. -/
abbrev hs0_3 (t : Fin cfg0.N) : (ms0_3 t).IsWhole := hstage0_3 ((cfg0.slots t 3).cast nbuf0_3)
/-- The buffer of window 4 at point `t`. -/
abbrev ms0_4 (t : Fin cfg0.N) : Memref sig .tc .vmem S256x1 .i32 := win0_4.stage (cfg0.slots t 4)
/-- It is a whole buffer. -/
abbrev hs0_4 (t : Fin cfg0.N) : (ms0_4 t).IsWhole := hstage0_4 ((cfg0.slots t 4).cast nbuf0_4)
/-- The buffer of window 5 at point `t`. -/
abbrev ms0_5 (t : Fin cfg0.N) : Memref sig .tc .vmem S1x128 .f32 := win0_5.stage (cfg0.slots t 5)
/-- It is a whole buffer. -/
abbrev hs0_5 (t : Fin cfg0.N) : (ms0_5 t).IsWhole := hstage0_5 ((cfg0.slots t 5).cast nbuf0_5)
/-- The buffer of window 6 at point `t`. -/
abbrev ms0_6 (t : Fin cfg0.N) : Memref sig .tc .vmem S256x1024 .bf16 := win0_6.stage (cfg0.slots t 6)
/-- It is a whole buffer. -/
abbrev hs0_6 (t : Fin cfg0.N) : (ms0_6 t).IsWhole := hstage0_6 ((cfg0.slots t 6).cast nbuf0_6)
/-- The buffer of window 7 at point `t`. -/
abbrev ms0_7 (t : Fin cfg0.N) : Memref sig .tc .vmem S256x7168 .fp8e4m3 := win0_7.stage (cfg0.slots t 7)
/-- It is a whole buffer. -/
abbrev hs0_7 (t : Fin cfg0.N) : (ms0_7 t).IsWhole := hstage0_7 ((cfg0.slots t 7).cast nbuf0_7)
/-- The buffer of window 8 at point `t`. -/
abbrev ms0_8 (t : Fin cfg0.N) : Memref sig .tc .vmem S256x56 .f32 := win0_8.stage (cfg0.slots t 8)
/-- It is a whole buffer. -/
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x7168 .bf16 := Memref.whole cc0_scratch0
/-- Scratch buffer 1. -/
abbrev scM0_1 : Memref sig .tc .vmem S256x128 .f32 := Memref.whole cc0_scratch1
/-- Scratch buffer 2. -/
abbrev scM0_2 : Memref sig .tc .vmem S256x128 .f32 := Memref.whole cc0_scratch2
/-- The scratch `arg10` the kernel carries between points, as a view: what it holds is stated through it. -/
abbrev VS0_0 : View sig .tc .vmem S256x7168 .bf16 := scM0_0.view
/-- The scratch `arg11` the kernel carries between points, as a view: what it holds is stated through it. -/
abbrev VS0_1 : View sig .tc .vmem S256x128 .f32 := scM0_1.view
/-- The scratch `arg12` the kernel carries between points, as a view: what it holds is stated through it. -/
abbrev VS0_2 : View sig .tc .vmem S256x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Run

end
-- ==== Proof.Run.Pieces.lean ====
/- What one trip of the quantiser's loop stores: the same three formulas for each of its 56 groups of 128 columns. -/
module

public import proofs.«01_k».proof.Proof.Run.Facts

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## One group of 128 columns -/

/-- The normed rows of a group: the block of `x` times each row's reciprocal root, times the group's weights. -/
def qH (rs : FVec F S32x1 .f32) (xb : Vec F S32x128 .bf16) (nb : Vec F S1x128 .bf16) : FVec F S32x128 .f32 :=
  mulf (mulf (extf .f32 (shapeCast S32x128 xb shapeCasts_S32x128_S32x128) bitsLt_bf16_f32) (broadcastTo S32x128 rs broadcasts_S32x1_S32x128))
    (broadcastTo S32x128 (extf .f32 (shapeCast S1x128 nb shapeCasts_S1x128_S1x128) bitsLt_bf16_f32) broadcasts_S1x128_S32x128)

/-- The greatest size in each row of a group. -/
def qA (h : FVec F S32x128 .f32) : FVec F S32x1 .f32 :=
  shapeCast S32x1 (multiReduction .maximumf [1] S32 (absf h) 0xFF800000#32 reduces_S32x128_S32 (.inl rfl) rfl) shapeCasts_S32_S32x1

/-- The exponent field of each row: the greatest `i << 23` whose float is not above `a / 448`. -/
def qE (a : FVec F S32x1 .f32) : IVec S32x1 32 :=
  shapeCast S32x1 (multiReductionI .maxsi [1] S32
    (select (cmpf .olt (broadcastTo S32x256 (mulf a (broadcast S32x1 (Scalar.ofBits .f32 0x3B124925#32))) broadcasts_S32x1_S32x256)
        (bitcastToFloat .f32 (shli (iota .tc S32x256 32 [1] iota_S32x256_d1_w32) (broadcast S32x256 23#32))))
      (broadcast S32x256 0#32) (shli (iota .tc S32x256 32 [1] iota_S32x256_d1_w32) (broadcast S32x256 23#32)))
    2147483648#32 reduces_S32x256_S32 rfl) shapeCasts_S32_S32x1

/-- Whether a row's exponent field is zero. -/
def qZ (e : IVec S32x1 32) : IVec S32x1 1 := cmpi .eq e (broadcast S32x1 0#32)

/-- A row's scale: one above its exponent field, or 1. -/
def qS (e : IVec S32x1 32) : FVec F S32x1 .f32 :=
  select (qZ e) (broadcast S32x1 (Scalar.ofBits .f32 0x3F800000#32)) (bitcastToFloat .f32 (addi e (broadcast S32x1 8388608#32)))

/-- The reciprocal of a row's scale, by its bits. -/
def qI (e : IVec S32x1 32) : FVec F S32x1 .f32 :=
  select (qZ e) (broadcast S32x1 (Scalar.ofBits .f32 0x3F800000#32)) (bitcastToFloat .f32 (subi (broadcast S32x1 2122317824#32) e))

/-- The codes of a group: scaled, clipped to ±448. -/
def qC (h : FVec F S32x128 .f32) : FVec F S32x128 .fp8e4m3 :=
  truncf .fp8e4m3 (minimumf (broadcast S32x128 (Scalar.ofBits .f32 0x43E00000#32)) (maximumf (broadcast S32x128 (Scalar.ofBits .f32 0xC3E00000#32))
    (mulf h (broadcastTo S32x128 (qI (F := F) (qE (qA h))) broadcasts_S32x1_S32x128)))) bitsLt_fp8e4m3_f32

/-- The codes times their scale, as bfloat16. -/
def qXA (h : FVec F S32x128 .f32) : FVec F S32x128 .bf16 :=
  shapeCast S32x128 (mulf (extf .bf16 (qC h) bitsLt_fp8e4m3_bf16)
    (broadcastTo S32x128 (truncf .bf16 (qS (F := F) (qE (qA h))) bitsLt_bf16_f32) broadcasts_S32x1_S32x128)) shapeCasts_S32x128_S32x128

/-- One group's scale put in its own lane of the row's scales. -/
def qStep (g : BitVec 32) (prev : FVec F S32x128 .f32) (h : FVec F S32x128 .f32) : FVec F S32x128 .f32 :=
  select (cmpi .eq (iota .tc S32x128 32 [1] iota_S32x128_d1_w32) (broadcast S32x128 g))
    (broadcastTo S32x128 (shapeCast S32x1 (qS (F := F) (qE (qA h))) shapeCasts_S32x1_S32x1) broadcasts_S32x1_S32x128) prev

/-! ## Where a trip's rows start -/

/-- The first row of trip `k`, as the word the program computes. -/
def offw (k : Fin k0_t1_loop.trips) : ℕ := (Scalar.indexCast (Scalar.muli (Scf.iv 0#32 1#32 k.val) 32#32)).toNat

/-- It is row `32 k`. -/
theorem offw_eq : ∀ k : Fin k0_t1_loop.trips, offw k = 32 * k.val := by decide +kernel

/-- The loop makes eight trips. -/
theorem trips_eq : k0_t1_loop.trips = 8 := by decide +kernel

/-- Group `g` of trip `k` lies inside the array. -/
theorem inb_x (k : Fin k0_t1_loop.trips) (g : Fin 56) : ∀ a, (![offw k, 128 * g.val] : Fin 2 → ℕ) a + S32x128.size a ≤ S256x7168.size a := by
  have hk : k.val < 8 := lt_of_lt_of_eq k.isLt trips_eq
  have hg := g.isLt
  intro a; rw [offw_eq]
  match a with
  | 0 => show 32 * k.val + 32 ≤ 256; omega
  | 1 => show 128 * g.val + 128 ≤ 7168; omega

/-- Group `g` of the weights lies inside them. -/
theorem inb_n (g : Fin 56) : ∀ a, (![0, 128 * g.val] : Fin 2 → ℕ) a + S1x128.size a ≤ S1x7168.size a := by
  have hg := g.isLt
  intro a
  match a with
  | 0 => show 0 + 1 ≤ 1; omega
  | 1 => show 128 * g.val + 128 ≤ 7168; omega

/-- The rows of trip `k` lie inside the array. -/
theorem inb_r (k : Fin k0_t1_loop.trips) : ∀ a, (![offw k, 0] : Fin 2 → ℕ) a + S32x7168.size a ≤ S256x7168.size a := by
  have hk : k.val < 8 := lt_of_lt_of_eq k.isLt trips_eq
  intro a; rw [offw_eq]
  match a with
  | 0 => show 32 * k.val + 32 ≤ 256; omega
  | 1 => show 0 + 7168 ≤ 7168; omega

/-- The scales' rows of trip `k` lie inside the array. -/
theorem inb_s (k : Fin k0_t1_loop.trips) : ∀ a, (![offw k, 0] : Fin 2 → ℕ) a + S32x56.size a ≤ S256x56.size a := by
  have hk : k.val < 8 := lt_of_lt_of_eq k.isLt trips_eq
  intro a; rw [offw_eq]
  match a with
  | 0 => show 32 * k.val + 32 ≤ 256; omega
  | 1 => show 0 + 56 ≤ 56; omega

/-- The normed rows of group `g` in trip `k`, from the arrays the memrefs hold. -/
def hG (arg1 : Memref sig .tc .vmem S256x7168 .bf16) (arg2 : Memref sig .tc .vmem S1x7168 .bf16) (X_arg1 : BufTy.Contents (Elt F) arg1.view.ty) (X_arg2 : BufTy.Contents (Elt F) arg2.view.ty) (k : Fin k0_t1_loop.trips) (g : Fin 56) : FVec F S32x128 .f32 :=
  qH (k0_pay8 (View.readAt (Elt F) arg1.view (Rect.unit (s := S256x7168) ![offw k, 0] S32x7168.size (inb_r k)).toLoadRect X_arg1))
    (View.readAt (Elt F) arg1.view (Rect.unit (s := S256x7168) ![offw k, 128 * g.val] S32x128.size (inb_x k g)).toLoadRect X_arg1)
    (View.readAt (Elt F) arg2.view (Rect.unit (s := S1x7168) ![0, 128 * g.val] S1x128.size (inb_n g)).toLoadRect X_arg2)

/-- The scales of the first `n` groups, each in its own lane, zero elsewhere. -/
def accS (arg1 : Memref sig .tc .vmem S256x7168 .bf16) (arg2 : Memref sig .tc .vmem S1x7168 .bf16) (X_arg1 : BufTy.Contents (Elt F) arg1.view.ty) (X_arg2 : BufTy.Contents (Elt F) arg2.view.ty) (k : Fin k0_t1_loop.trips) : (n : ℕ) → n ≤ 56 → FVec F S32x128 .f32
  | 0, _ => broadcast S32x128 (Scalar.ofBits .f32 0x00000000#32)
  | n + 1, h => qStep (BitVec.ofNat 32 n) (accS arg1 arg2 X_arg1 X_arg2 k n (Nat.le_of_succ_le h)) (hG arg1 arg2 X_arg1 X_arg2 k ⟨n, h⟩)

/-! ## The pieces of a trip -/

/-- The groups, the last first. -/
def groups : List (Fin 56) := [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

/-- Every group is among them. -/
theorem mem_groups : ∀ g : Fin 56, g ∈ groups := by decide

/-- A trip's dequantised rows: one piece for each group, at the group's own place. -/
theorem trip10 (𝒱 : Variants) (c : Dev nD) (bd : Option 𝒱.V) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (k0_h1 : k0_cond1 i = 1#1) (X_arg1 : BufTy.Contents (Elt F) arg1.view.ty) (X_arg2 : BufTy.Contents (Elt F) arg2.view.ty) (k : Fin k0_t1_loop.trips) : (trip_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k).2.2.1 = groups.map fun g : Fin 56 =>
    (⟨Rect.unit (s := S256x7168) ![offw k, 128 * g.val] S32x128.size (inb_x k g), qXA (hG arg1 arg2 X_arg1 X_arg2 k g)⟩ : View.Piece (Elt F) S256x7168 .bf16) := by
  unfold trip_k0_t1
  rfl

/-- A trip's codes: one piece for each group, at the group's own place. -/
theorem trip8 (𝒱 : Variants) (c : Dev nD) (bd : Option 𝒱.V) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (k0_h1 : k0_cond1 i = 1#1) (X_arg1 : BufTy.Contents (Elt F) arg1.view.ty) (X_arg2 : BufTy.Contents (Elt F) arg2.view.ty) (k : Fin k0_t1_loop.trips) : (trip_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k).1 = groups.map fun g : Fin 56 =>
    (⟨Rect.unit (s := S256x7168) ![offw k, 128 * g.val] S32x128.size (inb_x k g), qC (hG arg1 arg2 X_arg1 X_arg2 k g)⟩ : View.Piece (Elt F) S256x7168 .fp8e4m3) := by
  unfold trip_k0_t1
  rfl

end Cert.KernelIdeal.Run

end
-- ==== Proof.Run.Scales.lean ====
/- The scales one trip of the quantiser's loop stores: each group's in its own lane. -/
module

public import proofs.«01_k».proof.Proof.Run.Pieces

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The scales after one more group. -/
theorem accS_succ (arg1 : Memref sig .tc .vmem S256x7168 .bf16) (arg2 : Memref sig .tc .vmem S1x7168 .bf16) (X_arg1 : BufTy.Contents (Elt F) arg1.view.ty) (X_arg2 : BufTy.Contents (Elt F) arg2.view.ty) (k : Fin k0_t1_loop.trips) (n : ℕ) (h : n + 1 ≤ 56) : accS (F := F) arg1 arg2 X_arg1 X_arg2 k (n + 1) h
    = qStep (BitVec.ofNat 32 n) (accS arg1 arg2 X_arg1 X_arg2 k n (Nat.le_of_succ_le h)) (hG arg1 arg2 X_arg1 X_arg2 k ⟨n, h⟩) := rfl

/-! ## After each group, the run's word is the scales so far -/

/-- The scales after 1 group of a trip. -/
theorem acc_1 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_4 i arg1 arg2 k0_h1 X_arg1 X_arg2 k = accS arg1 arg2 X_arg1 X_arg2 k 1 (by omega) := rfl
/-- The scales after 2 groups of a trip. -/
theorem acc_2 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_8 i arg1 arg2 k0_h1 X_arg1 X_arg2 k = accS arg1 arg2 X_arg1 X_arg2 k 2 (by omega) :=
  (show trip_k0_t1.sl.r_8 i arg1 arg2 k0_h1 X_arg1 X_arg2 k = qStep 1#32 (trip_k0_t1.sl.r_4 i arg1 arg2 k0_h1 X_arg1 X_arg2 k) (hG arg1 arg2 X_arg1 X_arg2 k 1) from rfl).trans
    ((congrArg (fun w => qStep 1#32 w (hG arg1 arg2 X_arg1 X_arg2 k 1)) (acc_1 i arg1 arg2 k0_h1 X_arg1 X_arg2 k)).trans (accS_succ arg1 arg2 X_arg1 X_arg2 k 1 (by omega)).symm)
/-- The scales after 3 groups of a trip. -/
theorem acc_3 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_11 i arg1 arg2 k0_h1 X_arg1 X_arg2 k = accS arg1 arg2 X_arg1 X_arg2 k 3 (by omega) :=
  (show trip_k0_t1.sl.r_11 i arg1 arg2 k0_h1 X_arg1 X_arg2 k = qStep 2#32 (trip_k0_t1.sl.r_8 i arg1 arg2 k0_h1 X_arg1 X_arg2 k) (hG arg1 arg2 X_arg1 X_arg2 k 2) from rfl).trans
    ((congrArg (fun w => qStep 2#32 w (hG arg1 arg2 X_arg1 X_arg2 k 2)) (acc_2 i arg1 arg2 k0_h1 X_arg1 X_arg2 k)).trans (accS_succ arg1 arg2 X_arg1 X_arg2 k 2 (by omega)).symm)
/-- The scales after 4 groups of a trip. -/
theorem acc_4 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_15 i arg1 arg2 k0_h1 X_arg1 X_arg2 k = accS arg1 arg2 X_arg1 X_arg2 k 4 (by omega) :=
  (show trip_k0_t1.sl.r_15 i arg1 arg2 k0_h1 X_arg1 X_arg2 k = qStep 3#32 (trip_k0_t1.sl.r_11 i arg1 arg2 k0_h1 X_arg1 X_arg2 k) (hG arg1 arg2 X_arg1 X_arg2 k 3) from rfl).trans
    ((congrArg (fun w => qStep 3#32 w (hG arg1 arg2 X_arg1 X_arg2 k 3)) (acc_3 i arg1 arg2 k0_h1 X_arg1 X_arg2 k)).trans (accS_succ arg1 arg2 X_arg1 X_arg2 k 3 (by omega)).symm)
/-- The scales after 5 groups of a trip. -/
theorem acc_5 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_19 i arg1 arg2 k0_h1 X_arg1 X_arg2 k = accS arg1 arg2 X_arg1 X_arg2 k 5 (by omega) :=
  (show trip_k0_t1.sl.r_19 i arg1 arg2 k0_h1 X_arg1 X_arg2 k = qStep 4#32 (trip_k0_t1.sl.r_15 i arg1 arg2 k0_h1 X_arg1 X_arg2 k) (hG arg1 arg2 X_arg1 X_arg2 k 4) from rfl).trans
    ((congrArg (fun w => qStep 4#32 w (hG arg1 arg2 X_arg1 X_arg2 k 4)) (acc_4 i arg1 arg2 k0_h1 X_arg1 X_arg2 k)).trans (accS_succ arg1 arg2 X_arg1 X_arg2 k 4 (by omega)).symm)
/-- The scales after 6 groups of a trip. -/
theorem acc_6 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_22 i arg1 arg2 k0_h1 X_arg1 X_arg2 k = accS arg1 arg2 X_arg1 X_arg2 k 6 (by omega) :=
  (show trip_k0_t1.sl.r_22 i arg1 arg2 k0_h1 X_arg1 X_arg2 k = qStep 5#32 (trip_k0_t1.sl.r_19 i arg1 arg2 k0_h1 X_arg1 X_arg2 k) (hG arg1 arg2 X_arg1 X_arg2 k 5) from rfl).trans
    ((congrArg (fun w => qStep 5#32 w (hG arg1 arg2 X_arg1 X_arg2 k 5)) (acc_5 i arg1 arg2 k0_h1 X_arg1 X_arg2 k)).trans (accS_succ arg1 arg2 X_arg1 X_arg2 k 5 (by omega)).symm)
/-- The scales after 7 groups of a trip. -/
theorem acc_7 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_26 i arg1 arg2 k0_h1 X_arg1 X_arg2 k = accS arg1 arg2 X_arg1 X_arg2 k 7 (by omega) :=
  (show trip_k0_t1.sl.r_26 i arg1 arg2 k0_h1 X_arg1 X_arg2 k = qStep 6#32 (trip_k0_t1.sl.r_22 i arg1 arg2 k0_h1 X_arg1 X_arg2 k) (hG arg1 arg2 X_arg1 X_arg2 k 6) from rfl).trans
    ((congrArg (fun w => qStep 6#32 w (hG arg1 arg2 X_arg1 X_arg2 k 6)) (acc_6 i arg1 arg2 k0_h1 X_arg1 X_arg2 k)).trans (accS_succ arg1 arg2 X_arg1 X_arg2 k 6 (by omega)).symm)
/-- The scales after 8 groups of a trip. -/
theorem acc_8 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_30 i arg1 arg2 k0_h1 X_arg1 X_arg2 k = accS arg1 arg2 X_arg1 X_arg2 k 8 (by omega) :=
  (show trip_k0_t1.sl.r_30 i arg1 arg2 k0_h1 X_arg1 X_arg2 k = qStep 7#32 (trip_k0_t1.sl.r_26 i arg1 arg2 k0_h1 X_arg1 X_arg2 k) (hG arg1 arg2 X_arg1 X_arg2 k 7) from rfl).trans
    ((congrArg (fun w => qStep 7#32 w (hG arg1 arg2 X_arg1 X_arg2 k 7)) (acc_7 i arg1 arg2 k0_h1 X_arg1 X_arg2 k)).trans (accS_succ arg1 arg2 X_arg1 X_arg2 k 7 (by omega)).symm)
/-- The scales after 9 groups of a trip. -/
theorem acc_9 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_33 i arg1 arg2 k0_h1 X_arg1 X_arg2 k = accS arg1 arg2 X_arg1 X_arg2 k 9 (by omega) :=
  (show trip_k0_t1.sl.r_33 i arg1 arg2 k0_h1 X_arg1 X_arg2 k = qStep 8#32 (trip_k0_t1.sl.r_30 i arg1 arg2 k0_h1 X_arg1 X_arg2 k) (hG arg1 arg2 X_arg1 X_arg2 k 8) from rfl).trans
    ((congrArg (fun w => qStep 8#32 w (hG arg1 arg2 X_arg1 X_arg2 k 8)) (acc_8 i arg1 arg2 k0_h1 X_arg1 X_arg2 k)).trans (accS_succ arg1 arg2 X_arg1 X_arg2 k 8 (by omega)).symm)
/-- The scales after 10 groups of a trip. -/
theorem acc_10 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_37 i arg1 arg2 k0_h1 X_arg1 X_arg2 k = accS arg1 arg2 X_arg1 X_arg2 k 10 (by omega) :=
  (show trip_k0_t1.sl.r_37 i arg1 arg2 k0_h1 X_arg1 X_arg2 k = qStep 9#32 (trip_k0_t1.sl.r_33 i arg1 arg2 k0_h1 X_arg1 X_arg2 k) (hG arg1 arg2 X_arg1 X_arg2 k 9) from rfl).trans
    ((congrArg (fun w => qStep 9#32 w (hG arg1 arg2 X_arg1 X_arg2 k 9)) (acc_9 i arg1 arg2 k0_h1 X_arg1 X_arg2 k)).trans (accS_succ arg1 arg2 X_arg1 X_arg2 k 9 (by omega)).symm)
/-- The scales after 11 groups of a trip. -/
theorem acc_11 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_41 i arg1 arg2 k0_h1 X_arg1 X_arg2 k = accS arg1 arg2 X_arg1 X_arg2 k 11 (by omega) :=
  (show trip_k0_t1.sl.r_41 i arg1 arg2 k0_h1 X_arg1 X_arg2 k = qStep 10#32 (trip_k0_t1.sl.r_37 i arg1 arg2 k0_h1 X_arg1 X_arg2 k) (hG arg1 arg2 X_arg1 X_arg2 k 10) from rfl).trans
    ((congrArg (fun w => qStep 10#32 w (hG arg1 arg2 X_arg1 X_arg2 k 10)) (acc_10 i arg1 arg2 k0_h1 X_arg1 X_arg2 k)).trans (accS_succ arg1 arg2 X_arg1 X_arg2 k 10 (by omega)).symm)
/-- The scales after 12 groups of a trip. -/
theorem acc_12 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_44 i arg1 arg2 k0_h1 X_arg1 X_arg2 k = accS arg1 arg2 X_arg1 X_arg2 k 12 (by omega) :=
  (show trip_k0_t1.sl.r_44 i arg1 arg2 k0_h1 X_arg1 X_arg2 k = qStep 11#32 (trip_k0_t1.sl.r_41 i arg1 arg2 k0_h1 X_arg1 X_arg2 k) (hG arg1 arg2 X_arg1 X_arg2 k 11) from rfl).trans
    ((congrArg (fun w => qStep 11#32 w (hG arg1 arg2 X_arg1 X_arg2 k 11)) (acc_11 i arg1 arg2 k0_h1 X_arg1 X_arg2 k)).trans (accS_succ arg1 arg2 X_arg1 X_arg2 k 11 (by omega)).symm)
/-- The scales after 13 groups of a trip. -/
theorem acc_13 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_48 i arg1 arg2 k0_h1 X_arg1 X_arg2 k = accS arg1 arg2 X_arg1 X_arg2 k 13 (by omega) :=
  (show trip_k0_t1.sl.r_48 i arg1 arg2 k0_h1 X_arg1 X_arg2 k = qStep 12#32 (trip_k0_t1.sl.r_44 i arg1 arg2 k0_h1 X_arg1 X_arg2 k) (hG arg1 arg2 X_arg1 X_arg2 k 12) from rfl).trans
    ((congrArg (fun w => qStep 12#32 w (hG arg1 arg2 X_arg1 X_arg2 k 12)) (acc_12 i arg1 arg2 k0_h1 X_arg1 X_arg2 k)).trans (accS_succ arg1 arg2 X_arg1 X_arg2 k 12 (by omega)).symm)
/-- The scales after 14 groups of a trip. -/
theorem acc_14 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_52 i arg1 arg2 k0_h1 X_arg1 X_arg2 k = accS arg1 arg2 X_arg1 X_arg2 k 14 (by omega) :=
  (show trip_k0_t1.sl.r_52 i arg1 arg2 k0_h1 X_arg1 X_arg2 k = qStep 13#32 (trip_k0_t1.sl.r_48 i arg1 arg2 k0_h1 X_arg1 X_arg2 k) (hG arg1 arg2 X_arg1 X_arg2 k 13) from rfl).trans
    ((congrArg (fun w => qStep 13#32 w (hG arg1 arg2 X_arg1 X_arg2 k 13)) (acc_13 i arg1 arg2 k0_h1 X_arg1 X_arg2 k)).trans (accS_succ arg1 arg2 X_arg1 X_arg2 k 13 (by omega)).symm)
/-- The scales after 15 groups of a trip. -/
theorem acc_15 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_55 i arg1 arg2 k0_h1 X_arg1 X_arg2 k = accS arg1 arg2 X_arg1 X_arg2 k 15 (by omega) :=
  (show trip_k0_t1.sl.r_55 i arg1 arg2 k0_h1 X_arg1 X_arg2 k = qStep 14#32 (trip_k0_t1.sl.r_52 i arg1 arg2 k0_h1 X_arg1 X_arg2 k) (hG arg1 arg2 X_arg1 X_arg2 k 14) from rfl).trans
    ((congrArg (fun w => qStep 14#32 w (hG arg1 arg2 X_arg1 X_arg2 k 14)) (acc_14 i arg1 arg2 k0_h1 X_arg1 X_arg2 k)).trans (accS_succ arg1 arg2 X_arg1 X_arg2 k 14 (by omega)).symm)
/-- The scales after 16 groups of a trip. -/
theorem acc_16 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_59 i arg1 arg2 k0_h1 X_arg1 X_arg2 k = accS arg1 arg2 X_arg1 X_arg2 k 16 (by omega) :=
  (show trip_k0_t1.sl.r_59 i arg1 arg2 k0_h1 X_arg1 X_arg2 k = qStep 15#32 (trip_k0_t1.sl.r_55 i arg1 arg2 k0_h1 X_arg1 X_arg2 k) (hG arg1 arg2 X_arg1 X_arg2 k 15) from rfl).trans
    ((congrArg (fun w => qStep 15#32 w (hG arg1 arg2 X_arg1 X_arg2 k 15)) (acc_15 i arg1 arg2 k0_h1 X_arg1 X_arg2 k)).trans (accS_succ arg1 arg2 X_arg1 X_arg2 k 15 (by omega)).symm)
/-- The scales after 17 groups of a trip. -/
theorem acc_17 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_63 i arg1 arg2 k0_h1 X_arg1 X_arg2 k = accS arg1 arg2 X_arg1 X_arg2 k 17 (by omega) :=
  (show trip_k0_t1.sl.r_63 i arg1 arg2 k0_h1 X_arg1 X_arg2 k = qStep 16#32 (trip_k0_t1.sl.r_59 i arg1 arg2 k0_h1 X_arg1 X_arg2 k) (hG arg1 arg2 X_arg1 X_arg2 k 16) from rfl).trans
    ((congrArg (fun w => qStep 16#32 w (hG arg1 arg2 X_arg1 X_arg2 k 16)) (acc_16 i arg1 arg2 k0_h1 X_arg1 X_arg2 k)).trans (accS_succ arg1 arg2 X_arg1 X_arg2 k 16 (by omega)).symm)
/-- The scales after 18 groups of a trip. -/
theorem acc_18 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_66 i arg1 arg2 k0_h1 X_arg1 X_arg2 k = accS arg1 arg2 X_arg1 X_arg2 k 18 (by omega) :=
  (show trip_k0_t1.sl.r_66 i arg1 arg2 k0_h1 X_arg1 X_arg2 k = qStep 17#32 (trip_k0_t1.sl.r_63 i arg1 arg2 k0_h1 X_arg1 X_arg2 k) (hG arg1 arg2 X_arg1 X_arg2 k 17) from rfl).trans
    ((congrArg (fun w => qStep 17#32 w (hG arg1 arg2 X_arg1 X_arg2 k 17)) (acc_17 i arg1 arg2 k0_h1 X_arg1 X_arg2 k)).trans (accS_succ arg1 arg2 X_arg1 X_arg2 k 17 (by omega)).symm)
/-- The scales after 19 groups of a trip. -/
theorem acc_19 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_70 i arg1 arg2 k0_h1 X_arg1 X_arg2 k = accS arg1 arg2 X_arg1 X_arg2 k 19 (by omega) :=
  (show trip_k0_t1.sl.r_70 i arg1 arg2 k0_h1 X_arg1 X_arg2 k = qStep 18#32 (trip_k0_t1.sl.r_66 i arg1 arg2 k0_h1 X_arg1 X_arg2 k) (hG arg1 arg2 X_arg1 X_arg2 k 18) from rfl).trans
    ((congrArg (fun w => qStep 18#32 w (hG arg1 arg2 X_arg1 X_arg2 k 18)) (acc_18 i arg1 arg2 k0_h1 X_arg1 X_arg2 k)).trans (accS_succ arg1 arg2 X_arg1 X_arg2 k 18 (by omega)).symm)
/-- The scales after 20 groups of a trip. -/
theorem acc_20 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_74 i arg1 arg2 k0_h1 X_arg1 X_arg2 k = accS arg1 arg2 X_arg1 X_arg2 k 20 (by omega) :=
  (show trip_k0_t1.sl.r_74 i arg1 arg2 k0_h1 X_arg1 X_arg2 k = qStep 19#32 (trip_k0_t1.sl.r_70 i arg1 arg2 k0_h1 X_arg1 X_arg2 k) (hG arg1 arg2 X_arg1 X_arg2 k 19) from rfl).trans
    ((congrArg (fun w => qStep 19#32 w (hG arg1 arg2 X_arg1 X_arg2 k 19)) (acc_19 i arg1 arg2 k0_h1 X_arg1 X_arg2 k)).trans (accS_succ arg1 arg2 X_arg1 X_arg2 k 19 (by omega)).symm)
/-- The scales after 21 groups of a trip. -/
theorem acc_21 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_77 i arg1 arg2 k0_h1 X_arg1 X_arg2 k = accS arg1 arg2 X_arg1 X_arg2 k 21 (by omega) :=
  (show trip_k0_t1.sl.r_77 i arg1 arg2 k0_h1 X_arg1 X_arg2 k = qStep 20#32 (trip_k0_t1.sl.r_74 i arg1 arg2 k0_h1 X_arg1 X_arg2 k) (hG arg1 arg2 X_arg1 X_arg2 k 20) from rfl).trans
    ((congrArg (fun w => qStep 20#32 w (hG arg1 arg2 X_arg1 X_arg2 k 20)) (acc_20 i arg1 arg2 k0_h1 X_arg1 X_arg2 k)).trans (accS_succ arg1 arg2 X_arg1 X_arg2 k 20 (by omega)).symm)
/-- The scales after 22 groups of a trip. -/
theorem acc_22 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_81 i arg1 arg2 k0_h1 X_arg1 X_arg2 k = accS arg1 arg2 X_arg1 X_arg2 k 22 (by omega) :=
  (show trip_k0_t1.sl.r_81 i arg1 arg2 k0_h1 X_arg1 X_arg2 k = qStep 21#32 (trip_k0_t1.sl.r_77 i arg1 arg2 k0_h1 X_arg1 X_arg2 k) (hG arg1 arg2 X_arg1 X_arg2 k 21) from rfl).trans
    ((congrArg (fun w => qStep 21#32 w (hG arg1 arg2 X_arg1 X_arg2 k 21)) (acc_21 i arg1 arg2 k0_h1 X_arg1 X_arg2 k)).trans (accS_succ arg1 arg2 X_arg1 X_arg2 k 21 (by omega)).symm)
/-- The scales after 23 groups of a trip. -/
theorem acc_23 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_85 i arg1 arg2 k0_h1 X_arg1 X_arg2 k = accS arg1 arg2 X_arg1 X_arg2 k 23 (by omega) :=
  (show trip_k0_t1.sl.r_85 i arg1 arg2 k0_h1 X_arg1 X_arg2 k = qStep 22#32 (trip_k0_t1.sl.r_81 i arg1 arg2 k0_h1 X_arg1 X_arg2 k) (hG arg1 arg2 X_arg1 X_arg2 k 22) from rfl).trans
    ((congrArg (fun w => qStep 22#32 w (hG arg1 arg2 X_arg1 X_arg2 k 22)) (acc_22 i arg1 arg2 k0_h1 X_arg1 X_arg2 k)).trans (accS_succ arg1 arg2 X_arg1 X_arg2 k 22 (by omega)).symm)
/-- The scales after 24 groups of a trip. -/
theorem acc_24 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_88 i arg1 arg2 k0_h1 X_arg1 X_arg2 k = accS arg1 arg2 X_arg1 X_arg2 k 24 (by omega) :=
  (show trip_k0_t1.sl.r_88 i arg1 arg2 k0_h1 X_arg1 X_arg2 k = qStep 23#32 (trip_k0_t1.sl.r_85 i arg1 arg2 k0_h1 X_arg1 X_arg2 k) (hG arg1 arg2 X_arg1 X_arg2 k 23) from rfl).trans
    ((congrArg (fun w => qStep 23#32 w (hG arg1 arg2 X_arg1 X_arg2 k 23)) (acc_23 i arg1 arg2 k0_h1 X_arg1 X_arg2 k)).trans (accS_succ arg1 arg2 X_arg1 X_arg2 k 23 (by omega)).symm)
/-- The scales after 25 groups of a trip. -/
theorem acc_25 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_92 i arg1 arg2 k0_h1 X_arg1 X_arg2 k = accS arg1 arg2 X_arg1 X_arg2 k 25 (by omega) :=
  (show trip_k0_t1.sl.r_92 i arg1 arg2 k0_h1 X_arg1 X_arg2 k = qStep 24#32 (trip_k0_t1.sl.r_88 i arg1 arg2 k0_h1 X_arg1 X_arg2 k) (hG arg1 arg2 X_arg1 X_arg2 k 24) from rfl).trans
    ((congrArg (fun w => qStep 24#32 w (hG arg1 arg2 X_arg1 X_arg2 k 24)) (acc_24 i arg1 arg2 k0_h1 X_arg1 X_arg2 k)).trans (accS_succ arg1 arg2 X_arg1 X_arg2 k 24 (by omega)).symm)
/-- The scales after 26 groups of a trip. -/
theorem acc_26 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_96 i arg1 arg2 k0_h1 X_arg1 X_arg2 k = accS arg1 arg2 X_arg1 X_arg2 k 26 (by omega) :=
  (show trip_k0_t1.sl.r_96 i arg1 arg2 k0_h1 X_arg1 X_arg2 k = qStep 25#32 (trip_k0_t1.sl.r_92 i arg1 arg2 k0_h1 X_arg1 X_arg2 k) (hG arg1 arg2 X_arg1 X_arg2 k 25) from rfl).trans
    ((congrArg (fun w => qStep 25#32 w (hG arg1 arg2 X_arg1 X_arg2 k 25)) (acc_25 i arg1 arg2 k0_h1 X_arg1 X_arg2 k)).trans (accS_succ arg1 arg2 X_arg1 X_arg2 k 25 (by omega)).symm)
/-- The scales after 27 groups of a trip. -/
theorem acc_27 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_99 i arg1 arg2 k0_h1 X_arg1 X_arg2 k = accS arg1 arg2 X_arg1 X_arg2 k 27 (by omega) :=
  (show trip_k0_t1.sl.r_99 i arg1 arg2 k0_h1 X_arg1 X_arg2 k = qStep 26#32 (trip_k0_t1.sl.r_96 i arg1 arg2 k0_h1 X_arg1 X_arg2 k) (hG arg1 arg2 X_arg1 X_arg2 k 26) from rfl).trans
    ((congrArg (fun w => qStep 26#32 w (hG arg1 arg2 X_arg1 X_arg2 k 26)) (acc_26 i arg1 arg2 k0_h1 X_arg1 X_arg2 k)).trans (accS_succ arg1 arg2 X_arg1 X_arg2 k 26 (by omega)).symm)
/-- The scales after 28 groups of a trip. -/
theorem acc_28 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_103 i arg1 arg2 k0_h1 X_arg1 X_arg2 k = accS arg1 arg2 X_arg1 X_arg2 k 28 (by omega) :=
  (show trip_k0_t1.sl.r_103 i arg1 arg2 k0_h1 X_arg1 X_arg2 k = qStep 27#32 (trip_k0_t1.sl.r_99 i arg1 arg2 k0_h1 X_arg1 X_arg2 k) (hG arg1 arg2 X_arg1 X_arg2 k 27) from rfl).trans
    ((congrArg (fun w => qStep 27#32 w (hG arg1 arg2 X_arg1 X_arg2 k 27)) (acc_27 i arg1 arg2 k0_h1 X_arg1 X_arg2 k)).trans (accS_succ arg1 arg2 X_arg1 X_arg2 k 27 (by omega)).symm)
/-- The scales after 29 groups of a trip. -/
theorem acc_29 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_107 i arg1 arg2 k0_h1 X_arg1 X_arg2 k = accS arg1 arg2 X_arg1 X_arg2 k 29 (by omega) :=
  (show trip_k0_t1.sl.r_107 i arg1 arg2 k0_h1 X_arg1 X_arg2 k = qStep 28#32 (trip_k0_t1.sl.r_103 i arg1 arg2 k0_h1 X_arg1 X_arg2 k) (hG arg1 arg2 X_arg1 X_arg2 k 28) from rfl).trans
    ((congrArg (fun w => qStep 28#32 w (hG arg1 arg2 X_arg1 X_arg2 k 28)) (acc_28 i arg1 arg2 k0_h1 X_arg1 X_arg2 k)).trans (accS_succ arg1 arg2 X_arg1 X_arg2 k 28 (by omega)).symm)
/-- The scales after 30 groups of a trip. -/
theorem acc_30 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_110 i arg1 arg2 k0_h1 X_arg1 X_arg2 k = accS arg1 arg2 X_arg1 X_arg2 k 30 (by omega) :=
  (show trip_k0_t1.sl.r_110 i arg1 arg2 k0_h1 X_arg1 X_arg2 k = qStep 29#32 (trip_k0_t1.sl.r_107 i arg1 arg2 k0_h1 X_arg1 X_arg2 k) (hG arg1 arg2 X_arg1 X_arg2 k 29) from rfl).trans
    ((congrArg (fun w => qStep 29#32 w (hG arg1 arg2 X_arg1 X_arg2 k 29)) (acc_29 i arg1 arg2 k0_h1 X_arg1 X_arg2 k)).trans (accS_succ arg1 arg2 X_arg1 X_arg2 k 29 (by omega)).symm)
/-- The scales after 31 groups of a trip. -/
theorem acc_31 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_114 i arg1 arg2 k0_h1 X_arg1 X_arg2 k = accS arg1 arg2 X_arg1 X_arg2 k 31 (by omega) :=
  (show trip_k0_t1.sl.r_114 i arg1 arg2 k0_h1 X_arg1 X_arg2 k = qStep 30#32 (trip_k0_t1.sl.r_110 i arg1 arg2 k0_h1 X_arg1 X_arg2 k) (hG arg1 arg2 X_arg1 X_arg2 k 30) from rfl).trans
    ((congrArg (fun w => qStep 30#32 w (hG arg1 arg2 X_arg1 X_arg2 k 30)) (acc_30 i arg1 arg2 k0_h1 X_arg1 X_arg2 k)).trans (accS_succ arg1 arg2 X_arg1 X_arg2 k 30 (by omega)).symm)
/-- The scales after 32 groups of a trip. -/
theorem acc_32 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_118 i arg1 arg2 k0_h1 X_arg1 X_arg2 k = accS arg1 arg2 X_arg1 X_arg2 k 32 (by omega) :=
  (show trip_k0_t1.sl.r_118 i arg1 arg2 k0_h1 X_arg1 X_arg2 k = qStep 31#32 (trip_k0_t1.sl.r_114 i arg1 arg2 k0_h1 X_arg1 X_arg2 k) (hG arg1 arg2 X_arg1 X_arg2 k 31) from rfl).trans
    ((congrArg (fun w => qStep 31#32 w (hG arg1 arg2 X_arg1 X_arg2 k 31)) (acc_31 i arg1 arg2 k0_h1 X_arg1 X_arg2 k)).trans (accS_succ arg1 arg2 X_arg1 X_arg2 k 31 (by omega)).symm)
/-- The scales after 33 groups of a trip. -/
theorem acc_33 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_121 i arg1 arg2 k0_h1 X_arg1 X_arg2 k = accS arg1 arg2 X_arg1 X_arg2 k 33 (by omega) :=
  (show trip_k0_t1.sl.r_121 i arg1 arg2 k0_h1 X_arg1 X_arg2 k = qStep 32#32 (trip_k0_t1.sl.r_118 i arg1 arg2 k0_h1 X_arg1 X_arg2 k) (hG arg1 arg2 X_arg1 X_arg2 k 32) from rfl).trans
    ((congrArg (fun w => qStep 32#32 w (hG arg1 arg2 X_arg1 X_arg2 k 32)) (acc_32 i arg1 arg2 k0_h1 X_arg1 X_arg2 k)).trans (accS_succ arg1 arg2 X_arg1 X_arg2 k 32 (by omega)).symm)
/-- The scales after 34 groups of a trip. -/
theorem acc_34 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_125 i arg1 arg2 k0_h1 X_arg1 X_arg2 k = accS arg1 arg2 X_arg1 X_arg2 k 34 (by omega) :=
  (show trip_k0_t1.sl.r_125 i arg1 arg2 k0_h1 X_arg1 X_arg2 k = qStep 33#32 (trip_k0_t1.sl.r_121 i arg1 arg2 k0_h1 X_arg1 X_arg2 k) (hG arg1 arg2 X_arg1 X_arg2 k 33) from rfl).trans
    ((congrArg (fun w => qStep 33#32 w (hG arg1 arg2 X_arg1 X_arg2 k 33)) (acc_33 i arg1 arg2 k0_h1 X_arg1 X_arg2 k)).trans (accS_succ arg1 arg2 X_arg1 X_arg2 k 33 (by omega)).symm)
/-- The scales after 35 groups of a trip. -/
theorem acc_35 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_129 i arg1 arg2 k0_h1 X_arg1 X_arg2 k = accS arg1 arg2 X_arg1 X_arg2 k 35 (by omega) :=
  (show trip_k0_t1.sl.r_129 i arg1 arg2 k0_h1 X_arg1 X_arg2 k = qStep 34#32 (trip_k0_t1.sl.r_125 i arg1 arg2 k0_h1 X_arg1 X_arg2 k) (hG arg1 arg2 X_arg1 X_arg2 k 34) from rfl).trans
    ((congrArg (fun w => qStep 34#32 w (hG arg1 arg2 X_arg1 X_arg2 k 34)) (acc_34 i arg1 arg2 k0_h1 X_arg1 X_arg2 k)).trans (accS_succ arg1 arg2 X_arg1 X_arg2 k 34 (by omega)).symm)
/-- The scales after 36 groups of a trip. -/
theorem acc_36 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_132 i arg1 arg2 k0_h1 X_arg1 X_arg2 k = accS arg1 arg2 X_arg1 X_arg2 k 36 (by omega) :=
  (show trip_k0_t1.sl.r_132 i arg1 arg2 k0_h1 X_arg1 X_arg2 k = qStep 35#32 (trip_k0_t1.sl.r_129 i arg1 arg2 k0_h1 X_arg1 X_arg2 k) (hG arg1 arg2 X_arg1 X_arg2 k 35) from rfl).trans
    ((congrArg (fun w => qStep 35#32 w (hG arg1 arg2 X_arg1 X_arg2 k 35)) (acc_35 i arg1 arg2 k0_h1 X_arg1 X_arg2 k)).trans (accS_succ arg1 arg2 X_arg1 X_arg2 k 35 (by omega)).symm)
/-- The scales after 37 groups of a trip. -/
theorem acc_37 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_136 i arg1 arg2 k0_h1 X_arg1 X_arg2 k = accS arg1 arg2 X_arg1 X_arg2 k 37 (by omega) :=
  (show trip_k0_t1.sl.r_136 i arg1 arg2 k0_h1 X_arg1 X_arg2 k = qStep 36#32 (trip_k0_t1.sl.r_132 i arg1 arg2 k0_h1 X_arg1 X_arg2 k) (hG arg1 arg2 X_arg1 X_arg2 k 36) from rfl).trans
    ((congrArg (fun w => qStep 36#32 w (hG arg1 arg2 X_arg1 X_arg2 k 36)) (acc_36 i arg1 arg2 k0_h1 X_arg1 X_arg2 k)).trans (accS_succ arg1 arg2 X_arg1 X_arg2 k 36 (by omega)).symm)
/-- The scales after 38 groups of a trip. -/
theorem acc_38 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_140 i arg1 arg2 k0_h1 X_arg1 X_arg2 k = accS arg1 arg2 X_arg1 X_arg2 k 38 (by omega) :=
  (show trip_k0_t1.sl.r_140 i arg1 arg2 k0_h1 X_arg1 X_arg2 k = qStep 37#32 (trip_k0_t1.sl.r_136 i arg1 arg2 k0_h1 X_arg1 X_arg2 k) (hG arg1 arg2 X_arg1 X_arg2 k 37) from rfl).trans
    ((congrArg (fun w => qStep 37#32 w (hG arg1 arg2 X_arg1 X_arg2 k 37)) (acc_37 i arg1 arg2 k0_h1 X_arg1 X_arg2 k)).trans (accS_succ arg1 arg2 X_arg1 X_arg2 k 37 (by omega)).symm)
/-- The scales after 39 groups of a trip. -/
theorem acc_39 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_143 i arg1 arg2 k0_h1 X_arg1 X_arg2 k = accS arg1 arg2 X_arg1 X_arg2 k 39 (by omega) :=
  (show trip_k0_t1.sl.r_143 i arg1 arg2 k0_h1 X_arg1 X_arg2 k = qStep 38#32 (trip_k0_t1.sl.r_140 i arg1 arg2 k0_h1 X_arg1 X_arg2 k) (hG arg1 arg2 X_arg1 X_arg2 k 38) from rfl).trans
    ((congrArg (fun w => qStep 38#32 w (hG arg1 arg2 X_arg1 X_arg2 k 38)) (acc_38 i arg1 arg2 k0_h1 X_arg1 X_arg2 k)).trans (accS_succ arg1 arg2 X_arg1 X_arg2 k 38 (by omega)).symm)
/-- The scales after 40 groups of a trip. -/
theorem acc_40 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_147 i arg1 arg2 k0_h1 X_arg1 X_arg2 k = accS arg1 arg2 X_arg1 X_arg2 k 40 (by omega) :=
  (show trip_k0_t1.sl.r_147 i arg1 arg2 k0_h1 X_arg1 X_arg2 k = qStep 39#32 (trip_k0_t1.sl.r_143 i arg1 arg2 k0_h1 X_arg1 X_arg2 k) (hG arg1 arg2 X_arg1 X_arg2 k 39) from rfl).trans
    ((congrArg (fun w => qStep 39#32 w (hG arg1 arg2 X_arg1 X_arg2 k 39)) (acc_39 i arg1 arg2 k0_h1 X_arg1 X_arg2 k)).trans (accS_succ arg1 arg2 X_arg1 X_arg2 k 39 (by omega)).symm)
/-- The scales after 41 groups of a trip. -/
theorem acc_41 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_151 i arg1 arg2 k0_h1 X_arg1 X_arg2 k = accS arg1 arg2 X_arg1 X_arg2 k 41 (by omega) :=
  (show trip_k0_t1.sl.r_151 i arg1 arg2 k0_h1 X_arg1 X_arg2 k = qStep 40#32 (trip_k0_t1.sl.r_147 i arg1 arg2 k0_h1 X_arg1 X_arg2 k) (hG arg1 arg2 X_arg1 X_arg2 k 40) from rfl).trans
    ((congrArg (fun w => qStep 40#32 w (hG arg1 arg2 X_arg1 X_arg2 k 40)) (acc_40 i arg1 arg2 k0_h1 X_arg1 X_arg2 k)).trans (accS_succ arg1 arg2 X_arg1 X_arg2 k 40 (by omega)).symm)
/-- The scales after 42 groups of a trip. -/
theorem acc_42 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_154 i arg1 arg2 k0_h1 X_arg1 X_arg2 k = accS arg1 arg2 X_arg1 X_arg2 k 42 (by omega) :=
  (show trip_k0_t1.sl.r_154 i arg1 arg2 k0_h1 X_arg1 X_arg2 k = qStep 41#32 (trip_k0_t1.sl.r_151 i arg1 arg2 k0_h1 X_arg1 X_arg2 k) (hG arg1 arg2 X_arg1 X_arg2 k 41) from rfl).trans
    ((congrArg (fun w => qStep 41#32 w (hG arg1 arg2 X_arg1 X_arg2 k 41)) (acc_41 i arg1 arg2 k0_h1 X_arg1 X_arg2 k)).trans (accS_succ arg1 arg2 X_arg1 X_arg2 k 41 (by omega)).symm)
/-- The scales after 43 groups of a trip. -/
theorem acc_43 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_158 i arg1 arg2 k0_h1 X_arg1 X_arg2 k = accS arg1 arg2 X_arg1 X_arg2 k 43 (by omega) :=
  (show trip_k0_t1.sl.r_158 i arg1 arg2 k0_h1 X_arg1 X_arg2 k = qStep 42#32 (trip_k0_t1.sl.r_154 i arg1 arg2 k0_h1 X_arg1 X_arg2 k) (hG arg1 arg2 X_arg1 X_arg2 k 42) from rfl).trans
    ((congrArg (fun w => qStep 42#32 w (hG arg1 arg2 X_arg1 X_arg2 k 42)) (acc_42 i arg1 arg2 k0_h1 X_arg1 X_arg2 k)).trans (accS_succ arg1 arg2 X_arg1 X_arg2 k 42 (by omega)).symm)
/-- The scales after 44 groups of a trip. -/
theorem acc_44 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_162 i arg1 arg2 k0_h1 X_arg1 X_arg2 k = accS arg1 arg2 X_arg1 X_arg2 k 44 (by omega) :=
  (show trip_k0_t1.sl.r_162 i arg1 arg2 k0_h1 X_arg1 X_arg2 k = qStep 43#32 (trip_k0_t1.sl.r_158 i arg1 arg2 k0_h1 X_arg1 X_arg2 k) (hG arg1 arg2 X_arg1 X_arg2 k 43) from rfl).trans
    ((congrArg (fun w => qStep 43#32 w (hG arg1 arg2 X_arg1 X_arg2 k 43)) (acc_43 i arg1 arg2 k0_h1 X_arg1 X_arg2 k)).trans (accS_succ arg1 arg2 X_arg1 X_arg2 k 43 (by omega)).symm)
/-- The scales after 45 groups of a trip. -/
theorem acc_45 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_165 i arg1 arg2 k0_h1 X_arg1 X_arg2 k = accS arg1 arg2 X_arg1 X_arg2 k 45 (by omega) :=
  (show trip_k0_t1.sl.r_165 i arg1 arg2 k0_h1 X_arg1 X_arg2 k = qStep 44#32 (trip_k0_t1.sl.r_162 i arg1 arg2 k0_h1 X_arg1 X_arg2 k) (hG arg1 arg2 X_arg1 X_arg2 k 44) from rfl).trans
    ((congrArg (fun w => qStep 44#32 w (hG arg1 arg2 X_arg1 X_arg2 k 44)) (acc_44 i arg1 arg2 k0_h1 X_arg1 X_arg2 k)).trans (accS_succ arg1 arg2 X_arg1 X_arg2 k 44 (by omega)).symm)
/-- The scales after 46 groups of a trip. -/
theorem acc_46 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_169 i arg1 arg2 k0_h1 X_arg1 X_arg2 k = accS arg1 arg2 X_arg1 X_arg2 k 46 (by omega) :=
  (show trip_k0_t1.sl.r_169 i arg1 arg2 k0_h1 X_arg1 X_arg2 k = qStep 45#32 (trip_k0_t1.sl.r_165 i arg1 arg2 k0_h1 X_arg1 X_arg2 k) (hG arg1 arg2 X_arg1 X_arg2 k 45) from rfl).trans
    ((congrArg (fun w => qStep 45#32 w (hG arg1 arg2 X_arg1 X_arg2 k 45)) (acc_45 i arg1 arg2 k0_h1 X_arg1 X_arg2 k)).trans (accS_succ arg1 arg2 X_arg1 X_arg2 k 45 (by omega)).symm)
/-- The scales after 47 groups of a trip. -/
theorem acc_47 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_173 i arg1 arg2 k0_h1 X_arg1 X_arg2 k = accS arg1 arg2 X_arg1 X_arg2 k 47 (by omega) :=
  (show trip_k0_t1.sl.r_173 i arg1 arg2 k0_h1 X_arg1 X_arg2 k = qStep 46#32 (trip_k0_t1.sl.r_169 i arg1 arg2 k0_h1 X_arg1 X_arg2 k) (hG arg1 arg2 X_arg1 X_arg2 k 46) from rfl).trans
    ((congrArg (fun w => qStep 46#32 w (hG arg1 arg2 X_arg1 X_arg2 k 46)) (acc_46 i arg1 arg2 k0_h1 X_arg1 X_arg2 k)).trans (accS_succ arg1 arg2 X_arg1 X_arg2 k 46 (by omega)).symm)
/-- The scales after 48 groups of a trip. -/
theorem acc_48 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_176 i arg1 arg2 k0_h1 X_arg1 X_arg2 k = accS arg1 arg2 X_arg1 X_arg2 k 48 (by omega) :=
  (show trip_k0_t1.sl.r_176 i arg1 arg2 k0_h1 X_arg1 X_arg2 k = qStep 47#32 (trip_k0_t1.sl.r_173 i arg1 arg2 k0_h1 X_arg1 X_arg2 k) (hG arg1 arg2 X_arg1 X_arg2 k 47) from rfl).trans
    ((congrArg (fun w => qStep 47#32 w (hG arg1 arg2 X_arg1 X_arg2 k 47)) (acc_47 i arg1 arg2 k0_h1 X_arg1 X_arg2 k)).trans (accS_succ arg1 arg2 X_arg1 X_arg2 k 47 (by omega)).symm)
/-- The scales after 49 groups of a trip. -/
theorem acc_49 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_180 i arg1 arg2 k0_h1 X_arg1 X_arg2 k = accS arg1 arg2 X_arg1 X_arg2 k 49 (by omega) :=
  (show trip_k0_t1.sl.r_180 i arg1 arg2 k0_h1 X_arg1 X_arg2 k = qStep 48#32 (trip_k0_t1.sl.r_176 i arg1 arg2 k0_h1 X_arg1 X_arg2 k) (hG arg1 arg2 X_arg1 X_arg2 k 48) from rfl).trans
    ((congrArg (fun w => qStep 48#32 w (hG arg1 arg2 X_arg1 X_arg2 k 48)) (acc_48 i arg1 arg2 k0_h1 X_arg1 X_arg2 k)).trans (accS_succ arg1 arg2 X_arg1 X_arg2 k 48 (by omega)).symm)
/-- The scales after 50 groups of a trip. -/
theorem acc_50 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_184 i arg1 arg2 k0_h1 X_arg1 X_arg2 k = accS arg1 arg2 X_arg1 X_arg2 k 50 (by omega) :=
  (show trip_k0_t1.sl.r_184 i arg1 arg2 k0_h1 X_arg1 X_arg2 k = qStep 49#32 (trip_k0_t1.sl.r_180 i arg1 arg2 k0_h1 X_arg1 X_arg2 k) (hG arg1 arg2 X_arg1 X_arg2 k 49) from rfl).trans
    ((congrArg (fun w => qStep 49#32 w (hG arg1 arg2 X_arg1 X_arg2 k 49)) (acc_49 i arg1 arg2 k0_h1 X_arg1 X_arg2 k)).trans (accS_succ arg1 arg2 X_arg1 X_arg2 k 49 (by omega)).symm)
/-- The scales after 51 groups of a trip. -/
theorem acc_51 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_187 i arg1 arg2 k0_h1 X_arg1 X_arg2 k = accS arg1 arg2 X_arg1 X_arg2 k 51 (by omega) :=
  (show trip_k0_t1.sl.r_187 i arg1 arg2 k0_h1 X_arg1 X_arg2 k = qStep 50#32 (trip_k0_t1.sl.r_184 i arg1 arg2 k0_h1 X_arg1 X_arg2 k) (hG arg1 arg2 X_arg1 X_arg2 k 50) from rfl).trans
    ((congrArg (fun w => qStep 50#32 w (hG arg1 arg2 X_arg1 X_arg2 k 50)) (acc_50 i arg1 arg2 k0_h1 X_arg1 X_arg2 k)).trans (accS_succ arg1 arg2 X_arg1 X_arg2 k 50 (by omega)).symm)
/-- The scales after 52 groups of a trip. -/
theorem acc_52 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_191 i arg1 arg2 k0_h1 X_arg1 X_arg2 k = accS arg1 arg2 X_arg1 X_arg2 k 52 (by omega) :=
  (show trip_k0_t1.sl.r_191 i arg1 arg2 k0_h1 X_arg1 X_arg2 k = qStep 51#32 (trip_k0_t1.sl.r_187 i arg1 arg2 k0_h1 X_arg1 X_arg2 k) (hG arg1 arg2 X_arg1 X_arg2 k 51) from rfl).trans
    ((congrArg (fun w => qStep 51#32 w (hG arg1 arg2 X_arg1 X_arg2 k 51)) (acc_51 i arg1 arg2 k0_h1 X_arg1 X_arg2 k)).trans (accS_succ arg1 arg2 X_arg1 X_arg2 k 51 (by omega)).symm)
/-- The scales after 53 groups of a trip. -/
theorem acc_53 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_195 i arg1 arg2 k0_h1 X_arg1 X_arg2 k = accS arg1 arg2 X_arg1 X_arg2 k 53 (by omega) :=
  (show trip_k0_t1.sl.r_195 i arg1 arg2 k0_h1 X_arg1 X_arg2 k = qStep 52#32 (trip_k0_t1.sl.r_191 i arg1 arg2 k0_h1 X_arg1 X_arg2 k) (hG arg1 arg2 X_arg1 X_arg2 k 52) from rfl).trans
    ((congrArg (fun w => qStep 52#32 w (hG arg1 arg2 X_arg1 X_arg2 k 52)) (acc_52 i arg1 arg2 k0_h1 X_arg1 X_arg2 k)).trans (accS_succ arg1 arg2 X_arg1 X_arg2 k 52 (by omega)).symm)
/-- The scales after 54 groups of a trip. -/
theorem acc_54 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_198 i arg1 arg2 k0_h1 X_arg1 X_arg2 k = accS arg1 arg2 X_arg1 X_arg2 k 54 (by omega) :=
  (show trip_k0_t1.sl.r_198 i arg1 arg2 k0_h1 X_arg1 X_arg2 k = qStep 53#32 (trip_k0_t1.sl.r_195 i arg1 arg2 k0_h1 X_arg1 X_arg2 k) (hG arg1 arg2 X_arg1 X_arg2 k 53) from rfl).trans
    ((congrArg (fun w => qStep 53#32 w (hG arg1 arg2 X_arg1 X_arg2 k 53)) (acc_53 i arg1 arg2 k0_h1 X_arg1 X_arg2 k)).trans (accS_succ arg1 arg2 X_arg1 X_arg2 k 53 (by omega)).symm)
/-- The scales after 55 groups of a trip. -/
theorem acc_55 (i : grid0.Coords) (arg1 : Memref sig .tc .vmem S256x7168 .bf16) (arg2 : Memref sig .tc .vmem S1x7168 .bf16) (k0_h1 : k0_cond1 i = 1#1) (X_arg1 : BufTy.Contents (Elt F) arg1.view.ty) (X_arg2 : BufTy.Contents (Elt F) arg2.view.ty) (k : Fin k0_t1_loop.trips) : trip_k0_t1.sl.r_202 i arg1 arg2 k0_h1 X_arg1 X_arg2 k = accS arg1 arg2 X_arg1 X_arg2 k 55 (by omega) :=
  (show trip_k0_t1.sl.r_202 i arg1 arg2 k0_h1 X_arg1 X_arg2 k = qStep 54#32 (trip_k0_t1.sl.r_198 i arg1 arg2 k0_h1 X_arg1 X_arg2 k) (hG arg1 arg2 X_arg1 X_arg2 k 54) from rfl).trans
    ((congrArg (fun w => qStep 54#32 w (hG arg1 arg2 X_arg1 X_arg2 k 54)) (acc_54 i arg1 arg2 k0_h1 X_arg1 X_arg2 k)).trans (accS_succ arg1 arg2 X_arg1 X_arg2 k 54 (by omega)).symm)

/-- A trip stores its 32 rows of scales once. -/
theorem trip9 (𝒱 : Variants) (c : Dev nD) (bd : Option 𝒱.V) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (k0_h1 : k0_cond1 i = 1#1) (X_arg1 : BufTy.Contents (Elt F) arg1.view.ty) (X_arg2 : BufTy.Contents (Elt F) arg2.view.ty) (k : Fin k0_t1_loop.trips) : (trip_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k).2.1
    = [(⟨Rect.unit (s := S256x56) ![offw k, 0] S32x56.size (inb_s k), extractStridedSlice S32x56 ![0, 0] (accS arg1 arg2 X_arg1 X_arg2 k 56 (by omega)) slices_S32x128_o0_0_S32x56⟩ : View.Piece (Elt F) S256x56 .f32)] := by
  rw [accS_succ, ← acc_55 i arg1 arg2 k0_h1]
  unfold trip_k0_t1
  rfl

end Cert.KernelIdeal.Run

end
-- ==== Proof.Run.Loop.lean ====
/- What the whole loop of the quantiser leaves in the three arrays it stores into. -/
module

public import proofs.«01_k».proof.Proof.Run.Scales
public import Idealize.ShloMosaic.Lib.ValueIdxCore
public import Idealize.ShloMosaic.Lib.Pipeline.Value
public import Idealize.ShloMosaic.Lib.Pipeline.ValueKit

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (𝒱 : Variants) (c : Dev nD) (bd : Option 𝒱.V) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (k0_h1 : k0_cond1 i = 1#1) (X_arg1 : BufTy.Contents (Elt F) arg1.view.ty) (X_arg2 : BufTy.Contents (Elt F) arg2.view.ty)

/-! ## An array written in blocks of 32 rows and 128 columns -/

/-- Blocks for every trip and group fill the array. -/
theorem grid_cover {e : EltTy} (L : List (View.Piece (Elt F) S256x7168 e)) (v : Fin k0_t1_loop.trips → Fin 56 → Vec F S32x128 e)
    (hc : ∀ k g, (⟨Rect.unit (s := S256x7168) ![offw k, 128 * g.val] S32x128.size (inb_x k g), v k g⟩ : View.Piece (Elt F) S256x7168 e) ∈ L) :
    ∀ y, ∃ p ∈ L, y ∈ p.1.set := by
  intro y
  have h0 : (y 0).val < 256 := (y 0).isLt
  have h1 : (y 1).val < 7168 := (y 1).isLt
  refine ⟨_, hc ⟨(y 0).val / 32, lt_of_lt_of_eq (by omega) trips_eq.symm⟩ ⟨(y 1).val / 128, by omega⟩, ?_⟩
  rw [Rect.mem_set_unit]
  intro a
  rw [offw_eq]
  match a with
  | 0 => show 32 * ((y 0).val / 32) ≤ (y 0).val ∧ (y 0).val < 32 * ((y 0).val / 32) + 32; omega
  | 1 => show 128 * ((y 1).val / 128) ≤ (y 1).val ∧ (y 1).val < 128 * ((y 1).val / 128) + 128; omega

/-- Each place of an array so filled holds what its own block has there. -/
theorem grid_canon {e : EltTy} (L : List (View.Piece (Elt F) S256x7168 e)) (v : Fin k0_t1_loop.trips → Fin 56 → Vec F S32x128 e)
    (hs : ∀ p ∈ L, ∃ k g, p = (⟨Rect.unit (s := S256x7168) ![offw k, 128 * g.val] S32x128.size (inb_x k g), v k g⟩ : View.Piece (Elt F) S256x7168 e))
    (hc : ∀ k g, (⟨Rect.unit (s := S256x7168) ![offw k, 128 * g.val] S32x128.size (inb_x k g), v k g⟩ : View.Piece (Elt F) S256x7168 e) ∈ L)
    (k : Fin k0_t1_loop.trips) (g : Fin 56) (r : Fin 32) (l : Fin 128) (y : S256x7168.Idx)
    (h0 : (y 0).val = 32 * k.val + r.val) (h1 : (y 1).val = 128 * g.val + l.val) :
    View.canon L y = v k g (ix2 r l) := by
  have key := View.canon_apply_of_pieces
    (fun y : S256x7168.Idx => v ⟨(y 0).val / 32, lt_of_lt_of_eq (by have : (y 0).val < 256 := (y 0).isLt; omega) trips_eq.symm⟩
      ⟨(y 1).val / 128, by have : (y 1).val < 7168 := (y 1).isLt; omega⟩
      (ix2 ⟨(y 0).val % 32, by omega⟩ ⟨(y 1).val % 128, by omega⟩)) L ?_ y (grid_cover L v hc y)
  · rw [key]
    have e0 : (⟨(y 0).val / 32, lt_of_lt_of_eq (by have : (y 0).val < 256 := (y 0).isLt; omega) trips_eq.symm⟩ : Fin k0_t1_loop.trips) = k :=
      Fin.ext (by show (y 0).val / 32 = k.val; omega)
    have e1 : (⟨(y 1).val / 128, by have : (y 1).val < 7168 := (y 1).isLt; omega⟩ : Fin 56) = g := Fin.ext (by show (y 1).val / 128 = g.val; omega)
    have e2 : (⟨(y 0).val % 32, by omega⟩ : Fin 32) = r := Fin.ext (by show (y 0).val % 32 = r.val; omega)
    have e3 : (⟨(y 1).val % 128, by omega⟩ : Fin 128) = l := Fin.ext (by show (y 1).val % 128 = l.val; omega)
    rw [e0, e1, e2, e3]
  · intro p hp x
    obtain ⟨k, g, rfl⟩ := hs p hp
    have a0 : (((Rect.unit (s := S256x7168) ![offw k, 128 * g.val] S32x128.size (inb_x k g)).emb x) 0).val = 32 * k.val + (x 0).val := by
      rw [ValueKit.rect_emb_unit_val, ← offw_eq]; rfl
    have a1 : (((Rect.unit (s := S256x7168) ![offw k, 128 * g.val] S32x128.size (inb_x k g)).emb x) 1).val = 128 * g.val + (x 1).val := by
      rw [ValueKit.rect_emb_unit_val]; rfl
    have b0 : (x 0).val < 32 := (x 0).isLt
    have b1 : (x 1).val < 128 := (x 1).isLt
    show v k g x = v ⟨_, _⟩ ⟨_, _⟩ (ix2 ⟨_, _⟩ ⟨_, _⟩)
    simp only [a0, a1]
    have e0 : ∀ h, (⟨(32 * k.val + (x 0).val) / 32, h⟩ : Fin k0_t1_loop.trips) = k := fun h => Fin.ext (by show (32 * k.val + (x 0).val) / 32 = k.val; omega)
    have e1 : ∀ h, (⟨(128 * g.val + (x 1).val) / 128, h⟩ : Fin 56) = g := fun h => Fin.ext (by show (128 * g.val + (x 1).val) / 128 = g.val; omega)
    have e2 : ∀ h, (⟨(32 * k.val + (x 0).val) % 32, h⟩ : Fin 32) = x 0 := fun h => Fin.ext (by show (32 * k.val + (x 0).val) % 32 = (x 0).val; omega)
    have e3 : ∀ h, (⟨(128 * g.val + (x 1).val) % 128, h⟩ : Fin 128) = x 1 := fun h => Fin.ext (by show (128 * g.val + (x 1).val) % 128 = (x 1).val; omega)
    rw [e0, e1, e2, e3]
    exact congrArg _ (eq_ix2 x)

/-- Blocks of 32 whole rows, one for every trip, fill the scales. -/
theorem rows_cover (L : List (View.Piece (Elt F) S256x56 .f32)) (v : Fin k0_t1_loop.trips → FVec F S32x56 .f32)
    (hc : ∀ k, (⟨Rect.unit (s := S256x56) ![offw k, 0] S32x56.size (inb_s k), v k⟩ : View.Piece (Elt F) S256x56 .f32) ∈ L) :
    ∀ y, ∃ p ∈ L, y ∈ p.1.set := by
  intro y
  have h0 : (y 0).val < 256 := (y 0).isLt
  have h1 : (y 1).val < 56 := (y 1).isLt
  refine ⟨_, hc ⟨(y 0).val / 32, lt_of_lt_of_eq (by omega) trips_eq.symm⟩, ?_⟩
  rw [Rect.mem_set_unit]
  intro a
  rw [offw_eq]
  match a with
  | 0 => show 32 * ((y 0).val / 32) ≤ (y 0).val ∧ (y 0).val < 32 * ((y 0).val / 32) + 32; omega
  | 1 => show 0 ≤ (y 1).val ∧ (y 1).val < 0 + 56; omega

/-- Each place of the scales so filled holds what its own block has there. -/
theorem rows_canon (L : List (View.Piece (Elt F) S256x56 .f32)) (v : Fin k0_t1_loop.trips → FVec F S32x56 .f32)
    (hs : ∀ p ∈ L, ∃ k, p = (⟨Rect.unit (s := S256x56) ![offw k, 0] S32x56.size (inb_s k), v k⟩ : View.Piece (Elt F) S256x56 .f32))
    (hc : ∀ k, (⟨Rect.unit (s := S256x56) ![offw k, 0] S32x56.size (inb_s k), v k⟩ : View.Piece (Elt F) S256x56 .f32) ∈ L)
    (k : Fin k0_t1_loop.trips) (r : Fin 32) (y : S256x56.Idx) (h0 : (y 0).val = 32 * k.val + r.val) :
    View.canon L y = v k (ix2 r (y 1)) := by
  have key := View.canon_apply_of_pieces
    (fun y : S256x56.Idx => v ⟨(y 0).val / 32, lt_of_lt_of_eq (by have : (y 0).val < 256 := (y 0).isLt; omega) trips_eq.symm⟩
      (ix2 ⟨(y 0).val % 32, by omega⟩ (y 1))) L ?_ y (rows_cover L v hc y)
  · rw [key]
    have e0 : (⟨(y 0).val / 32, lt_of_lt_of_eq (by have : (y 0).val < 256 := (y 0).isLt; omega) trips_eq.symm⟩ : Fin k0_t1_loop.trips) = k :=
      Fin.ext (by show (y 0).val / 32 = k.val; omega)
    have e2 : (⟨(y 0).val % 32, by omega⟩ : Fin 32) = r := Fin.ext (by show (y 0).val % 32 = r.val; omega)
    rw [e0, e2]
  · intro p hp x
    obtain ⟨k, rfl⟩ := hs p hp
    have a0 : (((Rect.unit (s := S256x56) ![offw k, 0] S32x56.size (inb_s k)).emb x) 0).val = 32 * k.val + (x 0).val := by
      rw [ValueKit.rect_emb_unit_val, ← offw_eq]; rfl
    have a1 : ((Rect.unit (s := S256x56) ![offw k, 0] S32x56.size (inb_s k)).emb x) 1 = x 1 := by
      apply Fin.ext; rw [ValueKit.rect_emb_unit_val]; exact Nat.zero_add _
    have b0 : (x 0).val < 32 := (x 0).isLt
    show v k x = v ⟨_, _⟩ (ix2 ⟨_, _⟩ _)
    simp only [a0, a1]
    have e0 : ∀ h, (⟨(32 * k.val + (x 0).val) / 32, h⟩ : Fin k0_t1_loop.trips) = k := fun h => Fin.ext (by show (32 * k.val + (x 0).val) / 32 = k.val; omega)
    have e2 : ∀ h, (⟨(32 * k.val + (x 0).val) % 32, h⟩ : Fin 32) = x 0 := fun h => Fin.ext (by show (32 * k.val + (x 0).val) % 32 = (x 0).val; omega)
    rw [e0, e2]
    exact congrArg _ (eq_ix2 x)

/-! ## The loop's pieces -/

/-- The dequantised rows are stored block by block: nothing else is stored there. -/
theorem pb10_only : ∀ n ≤ k0_t1_loop.trips, ∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n).2.2, ∃ k g, p = (⟨Rect.unit (s := S256x7168) ![offw k, 128 * g.val] S32x128.size (inb_x k g), qXA (hG arg1 arg2 X_arg1 X_arg2 k g)⟩ : View.Piece (Elt F) S256x7168 .bf16) := by
  intro n
  induction n with
  | zero => intro _ p hp; exact absurd hp (List.not_mem_nil)
  | succ n ih =>
    intro hn p hp
    rw [pb_k0_t1_succ 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩] at hp
    rcases List.mem_append.1 hp with h | h
    · rw [show (tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩).2.2 = _ from trip10 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩] at h
      obtain ⟨g, -, rfl⟩ := List.mem_map.1 h
      exact ⟨_, g, rfl⟩
    · exact ih (Nat.le_of_succ_le hn) p h

/-- The dequantised rows of every group in every trip before `n` are stored. -/
theorem pb10_has : ∀ n ≤ k0_t1_loop.trips, ∀ k : Fin k0_t1_loop.trips, k.val < n → ∀ g : Fin 56, (⟨Rect.unit (s := S256x7168) ![offw k, 128 * g.val] S32x128.size (inb_x k g), qXA (hG arg1 arg2 X_arg1 X_arg2 k g)⟩ : View.Piece (Elt F) S256x7168 .bf16) ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n).2.2 := by
  intro n
  induction n with
  | zero => intro _ k hk; exact absurd hk (Nat.not_lt_zero _)
  | succ n ih =>
    intro hn k hk g
    rw [pb_k0_t1_succ 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩]
    apply List.mem_append.2
    rcases Nat.lt_succ_iff_lt_or_eq.1 hk with h | h
    · exact .inr (ih (Nat.le_of_succ_le hn) k h g)
    · left
      obtain rfl : k = ⟨n, hn⟩ := Fin.ext h
      rw [show (tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩).2.2 = _ from trip10 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩]
      exact List.mem_map.2 ⟨g, mem_groups g, rfl⟩

/-- After the loop the dequantised rows are all stored. -/
theorem pb10_cover : ∀ y, ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k0_t1_loop.trips).2.2, y ∈ p.1.set :=
  grid_cover _ (fun k g => qXA (hG arg1 arg2 X_arg1 X_arg2 k g)) fun k g => pb10_has 𝒱 c bd i arg1 harg1 arg2 harg2 arg3 harg3 arg4 harg4 arg5 harg5 arg6 harg6 arg7 harg7 arg8 harg8 arg9 harg9 arg10 harg10 arg11 harg11 arg12 harg12 k0_h1 X_arg1 X_arg2 _ le_rfl k k.isLt g

/-- After the loop each of the dequantised rows is what its group has. -/
theorem pb10_canon (k : Fin k0_t1_loop.trips) (g : Fin 56) (r : Fin 32) (l : Fin 128) (y : S256x7168.Idx)
    (h0 : (y 0).val = 32 * k.val + r.val) (h1 : (y 1).val = 128 * g.val + l.val) :
    View.canon (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k0_t1_loop.trips).2.2 y = qXA (hG arg1 arg2 X_arg1 X_arg2 k g) (ix2 r l) :=
  grid_canon (e := .bf16) (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k0_t1_loop.trips).2.2 (fun k g => qXA (hG arg1 arg2 X_arg1 X_arg2 k g)) (pb10_only 𝒱 c bd i arg1 harg1 arg2 harg2 arg3 harg3 arg4 harg4 arg5 harg5 arg6 harg6 arg7 harg7 arg8 harg8 arg9 harg9 arg10 harg10 arg11 harg11 arg12 harg12 k0_h1 X_arg1 X_arg2 _ le_rfl) (fun k g => pb10_has 𝒱 c bd i arg1 harg1 arg2 harg2 arg3 harg3 arg4 harg4 arg5 harg5 arg6 harg6 arg7 harg7 arg8 harg8 arg9 harg9 arg10 harg10 arg11 harg11 arg12 harg12 k0_h1 X_arg1 X_arg2 _ le_rfl k k.isLt g) k g r l y h0 h1

/-- The codes are stored block by block: nothing else is stored there. -/
theorem pb8_only : ∀ n ≤ k0_t1_loop.trips, ∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n).1, ∃ k g, p = (⟨Rect.unit (s := S256x7168) ![offw k, 128 * g.val] S32x128.size (inb_x k g), qC (hG arg1 arg2 X_arg1 X_arg2 k g)⟩ : View.Piece (Elt F) S256x7168 .fp8e4m3) := by
  intro n
  induction n with
  | zero => intro _ p hp; exact absurd hp (List.not_mem_nil)
  | succ n ih =>
    intro hn p hp
    rw [pb_k0_t1_succ 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩] at hp
    rcases List.mem_append.1 hp with h | h
    · rw [show (tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩).1 = _ from trip8 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩] at h
      obtain ⟨g, -, rfl⟩ := List.mem_map.1 h
      exact ⟨_, g, rfl⟩
    · exact ih (Nat.le_of_succ_le hn) p h

/-- The codes of every group in every trip before `n` are stored. -/
theorem pb8_has : ∀ n ≤ k0_t1_loop.trips, ∀ k : Fin k0_t1_loop.trips, k.val < n → ∀ g : Fin 56, (⟨Rect.unit (s := S256x7168) ![offw k, 128 * g.val] S32x128.size (inb_x k g), qC (hG arg1 arg2 X_arg1 X_arg2 k g)⟩ : View.Piece (Elt F) S256x7168 .fp8e4m3) ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n).1 := by
  intro n
  induction n with
  | zero => intro _ k hk; exact absurd hk (Nat.not_lt_zero _)
  | succ n ih =>
    intro hn k hk g
    rw [pb_k0_t1_succ 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩]
    apply List.mem_append.2
    rcases Nat.lt_succ_iff_lt_or_eq.1 hk with h | h
    · exact .inr (ih (Nat.le_of_succ_le hn) k h g)
    · left
      obtain rfl : k = ⟨n, hn⟩ := Fin.ext h
      rw [show (tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩).1 = _ from trip8 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩]
      exact List.mem_map.2 ⟨g, mem_groups g, rfl⟩

/-- After the loop the codes are all stored. -/
theorem pb8_cover : ∀ y, ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k0_t1_loop.trips).1, y ∈ p.1.set :=
  grid_cover _ (fun k g => qC (hG arg1 arg2 X_arg1 X_arg2 k g)) fun k g => pb8_has 𝒱 c bd i arg1 harg1 arg2 harg2 arg3 harg3 arg4 harg4 arg5 harg5 arg6 harg6 arg7 harg7 arg8 harg8 arg9 harg9 arg10 harg10 arg11 harg11 arg12 harg12 k0_h1 X_arg1 X_arg2 _ le_rfl k k.isLt g

/-- After the loop each of the codes is what its group has. -/
theorem pb8_canon (k : Fin k0_t1_loop.trips) (g : Fin 56) (r : Fin 32) (l : Fin 128) (y : S256x7168.Idx)
    (h0 : (y 0).val = 32 * k.val + r.val) (h1 : (y 1).val = 128 * g.val + l.val) :
    View.canon (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k0_t1_loop.trips).1 y = qC (hG arg1 arg2 X_arg1 X_arg2 k g) (ix2 r l) :=
  grid_canon (e := .fp8e4m3) (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k0_t1_loop.trips).1 (fun k g => qC (hG arg1 arg2 X_arg1 X_arg2 k g)) (pb8_only 𝒱 c bd i arg1 harg1 arg2 harg2 arg3 harg3 arg4 harg4 arg5 harg5 arg6 harg6 arg7 harg7 arg8 harg8 arg9 harg9 arg10 harg10 arg11 harg11 arg12 harg12 k0_h1 X_arg1 X_arg2 _ le_rfl) (fun k g => pb8_has 𝒱 c bd i arg1 harg1 arg2 harg2 arg3 harg3 arg4 harg4 arg5 harg5 arg6 harg6 arg7 harg7 arg8 harg8 arg9 harg9 arg10 harg10 arg11 harg11 arg12 harg12 k0_h1 X_arg1 X_arg2 _ le_rfl k k.isLt g) k g r l y h0 h1

/-- The 32 rows of scales trip `k` stores. -/
def vS (arg1 : Memref sig .tc .vmem S256x7168 .bf16) (arg2 : Memref sig .tc .vmem S1x7168 .bf16) (X_arg1 : BufTy.Contents (Elt F) arg1.view.ty) (X_arg2 : BufTy.Contents (Elt F) arg2.view.ty) (k : Fin k0_t1_loop.trips) : FVec F S32x56 .f32 :=
  extractStridedSlice S32x56 ![0, 0] (accS arg1 arg2 X_arg1 X_arg2 k 56 (by omega)) slices_S32x128_o0_0_S32x56

/-- The scales are stored 32 rows at a time: nothing else is stored there. -/
theorem pb9_only : ∀ n ≤ k0_t1_loop.trips, ∀ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n).2.1, ∃ k, p = (⟨Rect.unit (s := S256x56) ![offw k, 0] S32x56.size (inb_s k), vS arg1 arg2 X_arg1 X_arg2 k⟩ : View.Piece (Elt F) S256x56 .f32) := by
  intro n
  induction n with
  | zero => intro _ p hp; exact absurd hp (List.not_mem_nil)
  | succ n ih =>
    intro hn p hp
    rw [pb_k0_t1_succ 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩] at hp
    rcases List.mem_append.1 hp with h | h
    · rw [show (tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩).2.1 = _ from trip9 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩] at h
      exact ⟨_, List.mem_singleton.1 h⟩
    · exact ih (Nat.le_of_succ_le hn) p h

/-- The scales of every trip before `n` are stored. -/
theorem pb9_has : ∀ n ≤ k0_t1_loop.trips, ∀ k : Fin k0_t1_loop.trips, k.val < n → (⟨Rect.unit (s := S256x56) ![offw k, 0] S32x56.size (inb_s k), vS arg1 arg2 X_arg1 X_arg2 k⟩ : View.Piece (Elt F) S256x56 .f32) ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 n).2.1 := by
  intro n
  induction n with
  | zero => intro _ k hk; exact absurd hk (Nat.not_lt_zero _)
  | succ n ih =>
    intro hn k hk
    rw [pb_k0_t1_succ 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩]
    apply List.mem_append.2
    rcases Nat.lt_succ_iff_lt_or_eq.1 hk with h | h
    · exact .inr (ih (Nat.le_of_succ_le hn) k h)
    · left
      obtain rfl : k = ⟨n, hn⟩ := Fin.ext h
      rw [show (tripL_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩).2.1 = _ from trip9 𝒱 c bd i arg1 harg1 arg2 harg2 arg3 harg3 arg4 harg4 arg5 harg5 arg6 harg6 arg7 harg7 arg8 harg8 arg9 harg9 arg10 harg10 arg11 harg11 arg12 harg12 k0_h1 X_arg1 X_arg2 ⟨n, hn⟩]
      exact List.mem_singleton.2 rfl

/-- After the loop the scales are all stored. -/
theorem pb9_cover : ∀ y, ∃ p ∈ (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k0_t1_loop.trips).2.1, y ∈ p.1.set :=
  rows_cover _ (vS arg1 arg2 X_arg1 X_arg2) fun k => pb9_has 𝒱 c bd i arg1 harg1 arg2 harg2 arg3 harg3 arg4 harg4 arg5 harg5 arg6 harg6 arg7 harg7 arg8 harg8 arg9 harg9 arg10 harg10 arg11 harg11 arg12 harg12 k0_h1 X_arg1 X_arg2 _ le_rfl k k.isLt

/-- After the loop each scale is what its trip stored. -/
theorem pb9_canon (k : Fin k0_t1_loop.trips) (r : Fin 32) (y : S256x56.Idx) (h0 : (y 0).val = 32 * k.val + r.val) :
    View.canon (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k0_t1_loop.trips).2.1 y = vS arg1 arg2 X_arg1 X_arg2 k (ix2 r (y 1)) :=
  rows_canon (pb_k0_t1 (F := F) 𝒱 c bd i arg1 harg1 arg2 harg2 arg3 harg3 arg4 harg4 arg5 harg5 arg6 harg6 arg7 harg7 arg8 harg8 arg9 harg9 arg10 harg10 arg11 harg11 arg12 harg12 k0_h1 X_arg1 X_arg2 k0_t1_loop.trips).2.1 (vS arg1 arg2 X_arg1 X_arg2) (pb9_only 𝒱 c bd i arg1 harg1 arg2 harg2 arg3 harg3 arg4 harg4 arg5 harg5 arg6 harg6 arg7 harg7 arg8 harg8 arg9 harg9 arg10 harg10 arg11 harg11 arg12 harg12 k0_h1 X_arg1 X_arg2 _ le_rfl) (fun k => pb9_has 𝒱 c bd i arg1 harg1 arg2 harg2 arg3 harg3 arg4 harg4 arg5 harg5 arg6 harg6 arg7 harg7 arg8 harg8 arg9 harg9 arg10 harg10 arg11 harg11 arg12 harg12 k0_h1 X_arg1 X_arg2 _ le_rfl k k.isLt) k r y h0

end Cert.KernelIdeal.Run

end
-- ==== Proof.Run.RunA.lean ====
/- The body's run in case A of its branches, with the pieces it leaves in every output and scratch buffer. -/
module

public import proofs.«01_k».proof.Proof.Run.Loop

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The dequantised activations the loop leaves. -/
def arrXA (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (h1 : k0_cond1 i = 1#1) (x0 : Vec F S256x7168 .bf16) (x1 : Vec F S1x7168 .bf16) : Vec F S256x7168 .bf16 :=
  View.canon (pb_k0_t1 (F := F) Variants.none c none i arg1 harg1 arg2 harg2 arg3 harg3 arg4 harg4 arg5 harg5 arg6 harg6 arg7 harg7 arg8 harg8 arg9 harg9 arg10 harg10 arg11 harg11 arg12 harg12 h1 (harg1.unread x0) (harg2.unread x1) k0_t1_loop.trips).2.2

/-- A load of the whole array after the loop reads them, whatever was there before. -/
theorem arrXA_read (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (h1 : k0_cond1 i = 1#1) (x0 : Vec F S256x7168 .bf16) (x1 : Vec F S1x7168 .bf16)
    (f : BufTy.Contents (Elt F) arg10.view.ty) :
    View.readAt (Elt F) arg10.view (Rect.unit (s := S256x7168) ![0, 0] S256x7168.size inb_S256x7168_S256x7168_0_0).toLoadRect
      (arg10.view.writes (Elt F) f (pb_k0_t1 (F := F) Variants.none c none i arg1 harg1 arg2 harg2 arg3 harg3 arg4 harg4 arg5 harg5 arg6 harg6 arg7 harg7 arg8 harg8 arg9 harg9 arg10 harg10 arg11 harg11 arg12 harg12 h1 (harg1.unread x0) (harg2.unread x1) k0_t1_loop.trips).2.2) = arrXA c i arg1 harg1 arg2 harg2 arg3 harg3 arg4 harg4 arg5 harg5 arg6 harg6 arg7 harg7 arg8 harg8 arg9 harg9 arg10 harg10 arg11 harg11 arg12 harg12 h1 x0 x1 := by
  unfold arrXA
  rw [← View.read_writes_eq_canon arg10.view f _ (pb10_cover Variants.none c none i arg1 harg1 arg2 harg2 arg3 harg3 arg4 harg4 arg5 harg5 arg6 harg6 arg7 harg7 arg8 harg8 arg9 harg9 arg10 harg10 arg11 harg11 arg12 harg12 h1 (harg1.unread x0) (harg2.unread x1)), View.readAt_eq_ld]
  exact View.ld_unit_zero (by decide) _ _

-- (the run's proof term is large: the definition's epilogue — `abstractNestedProofs` — walks it past the default budget)
set_option maxHeartbeats 2000000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) :
    Σ' (L6 : List (View.Piece (Elt F) S256x1024 .bf16)), Σ' (L7 : List (View.Piece (Elt F) S256x7168 .fp8e4m3)), Σ' (L8 : List (View.Piece (Elt F) S256x56 .f32)), Σ' (LS0 : List (View.Piece (Elt F) S256x7168 .bf16)), Σ' (LS1 : List (View.Piece (Elt F) S256x128 .f32)), { LS2 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0_qkv_rope_eq_skeleton]; unfold cc0_qkv_rope_skel
    simp only [k0_part77_eq_skeleton, k0_part78_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    set_option sl_exec.stopBefore "k0_cond2" in sl_exec (disch := first | sl_exact hc0 | sl_exact hc1 | sl_exact hc2)
    rw [show kernelRun0_A.sl.v3 c i arg1 harg1 arg2 harg2 arg3 harg3 arg4 harg4 arg5 harg5 arg6 harg6 arg7 harg7 arg8 harg8 arg9 harg9 arg10 harg10 arg11 harg11 arg12 harg12 hc0 x0 x1 fs0 = arrXA c i arg1 harg1 arg2 harg2 arg3 harg3 arg4 harg4 arg5 harg5 arg6 harg6 arg7 harg7 arg8 harg8 arg9 harg9 arg10 harg10 arg11 harg11 arg12 harg12 hc0 x0 x1 from arrXA_read c i arg1 harg1 arg2 harg2 arg3 harg3 arg4 harg4 arg5 harg5 arg6 harg6 arg7 harg7 arg8 harg8 arg9 harg9 arg10 harg10 arg11 harg11 arg12 harg12 hc0 x0 x1 fs0]
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    isplitl [HS1]; · iexists _; iexact HS1
    iexists _; iexact HS2

end Cert.KernelIdeal.Run

end
-- ==== Proof.Run.RunB.lean ====
/- The body's run in case B of its branches, with the pieces it leaves in every output and scratch buffer. -/
module

public import proofs.«01_k».proof.Proof.Run.RunA

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 7: 7 of 9), WITH the
    proof that on whole staging memrefs — the inputs' at their contents, the outputs it leaves idle (7, 8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xs0 : Vec F S256x7168 .bf16) (xs1 : Vec F S256x128 .f32) (xs2 : Vec F S256x128 .f32) :
    Σ' (L6 : List (View.Piece (Elt F) S256x1024 .bf16)), Σ' (L7 : List (View.Piece (Elt F) S256x7168 .fp8e4m3)), Σ' (L8 : List (View.Piece (Elt F) S256x56 .f32)), Σ' (LS0 : List (View.Piece (Elt F) S256x7168 .bf16)), Σ' (LS1 : List (View.Piece (Elt F) S256x128 .f32)), { LS2 : List (View.Piece (Elt F) S256x128 .f32) //
      ∀ (xi7 : Vec F S256x7168 .fp8e4m3) (xi8 : Vec F S256x56 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1 ∗ owns (c : Thread nD τ) arg12 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11 arg12 harg12) K } := by
  refine ⟨?_, [], [], [], [], [], fun xi7 xi8 E K => ?run⟩
  case run =>
    simp only [cc0_qkv_rope_eq_skeleton]; unfold cc0_qkv_rope_skel
    simp only [k0_part77_eq_skeleton, k0_part78_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1; obtain rfl := harg12.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.KernelIdeal.Run

end
-- ==== Proof.Run.RunC.lean ====
/- The body's run in case C of its branches, with the pieces it leaves in every output and scratch buffer. -/
module

public import proofs.«01_k».proof.Proof.Run.RunB

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 8), WITH the
    proof that on whole staging memrefs — the inputs' at their contents, the outputs it reads before covering (7, 8) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xo7 : Vec F S256x7168 .fp8e4m3) (xo8 : Vec F S256x56 .f32) (xs0 : Vec F S256x7168 .bf16) (xs1 : Vec F S256x128 .f32) (xs2 : Vec F S256x128 .f32) :
    Σ' (L6 : List (View.Piece (Elt F) S256x1024 .bf16)), Σ' (L7 : List (View.Piece (Elt F) S256x7168 .fp8e4m3)), Σ' (L8 : List (View.Piece (Elt F) S256x56 .f32)), Σ' (LS0 : List (View.Piece (Elt F) S256x7168 .bf16)), Σ' (LS1 : List (View.Piece (Elt F) S256x128 .f32)), { LS2 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7 ∗ owns (c : Thread nD τ) arg9 fullShare xo8 ∗ owns (c : Thread nD τ) arg10 fullShare xs0 ∗ owns (c : Thread nD τ) arg11 fullShare xs1 ∗ owns (c : Thread nD τ) arg12 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xo7 ∗ owns (c : Thread nD τ) arg9 fullShare xo8 ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc0_qkv_rope i arg1 harg1 arg2 harg2 arg3 harg3 arg4 harg4 arg5 harg5 arg6 harg6 arg7 harg7 arg8 harg8 arg9 harg9 arg10 harg10 arg11 harg11 arg12 harg12) K } := by
  refine ⟨?_, [], [], [], [], [], fun E K => ?run⟩
  case run =>
    simp only [cc0_qkv_rope_eq_skeleton]; unfold cc0_qkv_rope_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1; obtain rfl := harg12.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.KernelIdeal.Run

end
-- ==== Proof.Run.Frame.lean ====
/- What the outputs and the scratch buffers hold after each grid point, the body's obligation, and the run of @main. -/
module

public import proofs.«01_k».proof.Proof.Run.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (8 stores of `S256x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).1 S256x128.size (by sl_kernel_rfl) y

/-- What case A leaves in output 6's staging buffer: its pieces read back over junk. -/
def out0_A_6 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) : Vec F S256x1024 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).1)

/-- Case A's pieces for output 7 tile its block (448 stores of `S32x128`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (y : S256x7168.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.1 S32x128.size (by sl_kernel_rfl) y

/-- What case A leaves in output 7's staging buffer: its pieces read back over junk. -/
def out0_A_7 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) : Vec F S256x7168 .fp8e4m3 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.1)

/-- Case A's pieces for output 8 tile its block (8 stores of `S32x56`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (y : S256x56.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.1 S32x56.size (by sl_kernel_rfl) y

/-- What case A leaves in output 8's staging buffer: its pieces read back over junk. -/
def out0_A_8 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) : Vec F S256x56 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.1)

/-- Case A's pieces for scratch `arg10`, which the kernel carries between points, cover it: 448 pieces of `S32x128` tiling it (Lib/Ring.lean `Piece.tiledL`). -/
theorem scover0_A_0 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (y : S256x7168.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.2.1 S32x128.size (by sl_kernel_rfl) y

/-- What case A leaves in scratch `arg10`: its pieces read back over junk. -/
def sout0_A_0 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) : Vec F S256x7168 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.2.1)

/-- Case A's pieces for scratch `arg11`, which the kernel carries between points, cover it: 1 piece of `S256x128` tiling it (Lib/Ring.lean `Piece.tiledL`). -/
theorem scover0_A_1 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.1 S256x128.size (by sl_kernel_rfl) y

/-- What case A leaves in scratch `arg11`: its pieces read back over junk. -/
def sout0_A_1 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) : Vec F S256x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.1)

/-- Case A's pieces for scratch `arg12`, which the kernel carries between points, cover it: 1 piece of `S256x128` tiling it (Lib/Ring.lean `Piece.tiledL`). -/
theorem scover0_A_2 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.2.1 S256x128.size (by sl_kernel_rfl) y

/-- What case A leaves in scratch `arg12`: its pieces read back over junk. -/
def sout0_A_2 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) : Vec F S256x128 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5).2.2.2.2.2.1)

/-- Case B's pieces for output 6 tile its block (8 stores of `S256x128`, checked by the kernel's evaluation: Lib/Ring.lean `Piece.tiledL`, linear in the pieces, through a loop's `@[irreducible]` trip theorem too), so they cover it. -/
theorem cover0_B_6 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xs0 : Vec F S256x7168 .bf16) (xs1 : Vec F S256x128 .f32) (xs2 : Vec F S256x128 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2).1 S256x128.size (by sl_kernel_rfl) y

/-- What case B leaves in output 6's staging buffer: its pieces read back over junk. -/
def out0_B_6 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xs0 : Vec F S256x7168 .bf16) (xs1 : Vec F S256x128 .f32) (xs2 : Vec F S256x128 .f32) : Vec F S256x1024 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2).1)

/-- Case B stores nothing into output 7 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_7 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xs0 : Vec F S256x7168 .bf16) (xs1 : Vec F S256x128 .f32) (xs2 : Vec F S256x128 .f32) (xo7 : Vec F S256x7168 .fp8e4m3) : Vec F S256x7168 .fp8e4m3 := xo7

/-- Case B stores nothing into output 8 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_8 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xs0 : Vec F S256x7168 .bf16) (xs1 : Vec F S256x128 .f32) (xs2 : Vec F S256x128 .f32) (xo8 : Vec F S256x56 .f32) : Vec F S256x56 .f32 := xo8

/-- Case B stores nothing into scratch `arg10`: it holds what the point before left. -/
def sout0_B_0 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xs0 : Vec F S256x7168 .bf16) (xs1 : Vec F S256x128 .f32) (xs2 : Vec F S256x128 .f32) : Vec F S256x7168 .bf16 := xs0

/-- Case B stores nothing into scratch `arg11`: it holds what the point before left. -/
def sout0_B_1 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xs0 : Vec F S256x7168 .bf16) (xs1 : Vec F S256x128 .f32) (xs2 : Vec F S256x128 .f32) : Vec F S256x128 .f32 := xs1

/-- Case B stores nothing into scratch `arg12`: it holds what the point before left. -/
def sout0_B_2 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xs0 : Vec F S256x7168 .bf16) (xs1 : Vec F S256x128 .f32) (xs2 : Vec F S256x128 .f32) : Vec F S256x128 .f32 := xs2

/-- Case C's pieces for output 6 tile its block (1 store of `S256x1024`, checked by the kernel's evaluation: Lib/Ring.lean `Piece.tiledL`, linear in the pieces, through a loop's `@[irreducible]` trip theorem too), so they cover it. -/
theorem cover0_C_6 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xo7 : Vec F S256x7168 .fp8e4m3) (xo8 : Vec F S256x56 .f32) (xs0 : Vec F S256x7168 .bf16) (xs1 : Vec F S256x128 .f32) (xs2 : Vec F S256x128 .f32) (y : S256x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xo7 xo8 xs0 xs1 xs2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xo7 xo8 xs0 xs1 xs2).1 S256x1024.size (by sl_kernel_rfl) y

/-- What case C leaves in output 6's staging buffer: its pieces read back over junk. -/
def out0_C_6 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xo7 : Vec F S256x7168 .fp8e4m3) (xo8 : Vec F S256x56 .f32) (xs0 : Vec F S256x7168 .bf16) (xs1 : Vec F S256x128 .f32) (xs2 : Vec F S256x128 .f32) : Vec F S256x1024 .bf16 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xo7 xo8 xs0 xs1 xs2).1)

/-- Case C stores nothing into output 7, a live window: its staging buffer holds what the point before left. -/
def out0_C_7 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xo7 : Vec F S256x7168 .fp8e4m3) (xo8 : Vec F S256x56 .f32) (xs0 : Vec F S256x7168 .bf16) (xs1 : Vec F S256x128 .f32) (xs2 : Vec F S256x128 .f32) : Vec F S256x7168 .fp8e4m3 := xo7

/-- Case C stores nothing into output 8, a live window: its staging buffer holds what the point before left. -/
def out0_C_8 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xo7 : Vec F S256x7168 .fp8e4m3) (xo8 : Vec F S256x56 .f32) (xs0 : Vec F S256x7168 .bf16) (xs1 : Vec F S256x128 .f32) (xs2 : Vec F S256x128 .f32) : Vec F S256x56 .f32 := xo8

/-- Case C stores nothing into scratch `arg10`: it holds what the point before left. -/
def sout0_C_0 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xo7 : Vec F S256x7168 .fp8e4m3) (xo8 : Vec F S256x56 .f32) (xs0 : Vec F S256x7168 .bf16) (xs1 : Vec F S256x128 .f32) (xs2 : Vec F S256x128 .f32) : Vec F S256x7168 .bf16 := xs0

/-- Case C stores nothing into scratch `arg11`: it holds what the point before left. -/
def sout0_C_1 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xo7 : Vec F S256x7168 .fp8e4m3) (xo8 : Vec F S256x56 .f32) (xs0 : Vec F S256x7168 .bf16) (xs1 : Vec F S256x128 .f32) (xs2 : Vec F S256x128 .f32) : Vec F S256x128 .f32 := xs1

/-- Case C stores nothing into scratch `arg12`: it holds what the point before left. -/
def sout0_C_2 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i)
    (x0 : Vec F S256x7168 .bf16) (x1 : Vec F S1x7168 .bf16) (x2 : Vec F S7168x1024 .fp8e4m3) (x3 : Vec F S1x1024 .f32) (x4 : Vec F S256x1 .i32) (x5 : Vec F S1x128 .f32) (xo7 : Vec F S256x7168 .fp8e4m3) (xo8 : Vec F S256x56 .f32) (xs0 : Vec F S256x7168 .bf16) (xs1 : Vec F S256x128 .f32) (xs2 : Vec F S256x128 .f32) : Vec F S256x128 .f32 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S256x1024 .bf16 × Vec F S256x7168 .fp8e4m3 × Vec F S256x56 .f32 × Vec F S256x7168 .bf16 × Vec F S256x128 .f32 × Vec F S256x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 9 = 0 then
      if h1 : (n + 1) < 8 then
        if h2 : (n + 1) % 9 = 8 then
          False.elim (by have hN : n + 1 < 9 := lt_of_lt_of_eq hn (show cfg0.N = 9 from N_0); omega)
        else
          (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
      else
        False.elim (by have hN : n + 1 < 9 := lt_of_lt_of_eq hn (show cfg0.N = 9 from N_0); omega)
    else
      if h1 : (n + 1) < 8 then
        if h2 : (n + 1) % 9 = 8 then
          False.elim (by have hN : n + 1 < 9 := lt_of_lt_of_eq hn (show cfg0.N = 9 from N_0); omega)
        else
          (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (outsAt0 c n (Nat.lt_of_succ_lt hn)).2.1, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2 (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2)
      else
        if h2 : (n + 1) % 9 = 8 then
          (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
        else
          False.elim (by have hN : n + 1 < 9 := lt_of_lt_of_eq hn (show cfg0.N = 9 from N_0); omega)

/-- `outsAt0` at a point of case A: that case's contents. -/
theorem outsAt0_A (c : Dev nD) (t : Fin cfg0.N) (h0 : t.val % 9 = 0) (h1 : t.val < 8) (h2 : ¬t.val % 9 = 8) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 9 = 0) (h1 : t.val < 8) (h2 : ¬t.val % 9 = 8) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (outsAt0 m c (t.val - 1) (Nat.lt_of_le_of_lt (Nat.sub_le _ _) t.isLt)).2.1, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 9 = 0) (h1 : ¬t.val < 8) (h2 : t.val % 9 = 8) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

/-- Before the first point the invariant is the one the region starts with. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = (outsAt0 m c t.val t.isLt).1 := by dsimp only [dats]
/-- What the body leaves in window 7. -/
theorem after0_7 (c : Dev nD) (t : Fin cfg0.N) : (dats m 0 c).after 7 t = (outsAt0 m c t.val t.isLt).2.1 := by dsimp only [dats]
/-- What the body leaves in window 8. -/
theorem after0_8 (c : Dev nD) (t : Fin cfg0.N) : (dats m 0 c).after 8 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the body finds in window 1. -/
theorem before0_1 (c : Dev nD) (t : Fin cfg0.N) (d) : (dats m 0 c).before 1 t d = iblk m c 1 t :=
  before0_1_of m (dats m 0 c) (A_eq m c 1) (after0_1 m c) t d
/-- What the body finds in window 2. -/
theorem before0_2 (c : Dev nD) (t : Fin cfg0.N) (d) : (dats m 0 c).before 2 t d = iblk m c 2 t :=
  before0_2_of m (dats m 0 c) (A_eq m c 2) (after0_2 m c) t d
/-- What the body finds in window 3. -/
theorem before0_3 (c : Dev nD) (t : Fin cfg0.N) (d) : (dats m 0 c).before 3 t d = iblk m c 3 t :=
  before0_3_of m (dats m 0 c) (A_eq m c 3) (after0_3 m c) t d
/-- What the body finds in window 4. -/
theorem before0_4 (c : Dev nD) (t : Fin cfg0.N) (d) : (dats m 0 c).before 4 t d = iblk m c 4 t :=
  before0_4_of m (dats m 0 c) (A_eq m c 4) (after0_4 m c) t d
/-- What the body finds in window 5. -/
theorem before0_5 (c : Dev nD) (t : Fin cfg0.N) (d) : (dats m 0 c).before 5 t d = iblk m c 5 t :=
  before0_5_of m (dats m 0 c) (A_eq m c 5) (after0_5 m c) t d

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 9 := lt_of_lt_of_eq t.isLt (show cfg0.N = 9 from N_0)
  rw [after0_7, after0_7]
  by_cases h0 : t.val % 9 = 0
  · by_cases h1 : t.val < 8
    · by_cases h2 : t.val % 9 = 8
      · exfalso; omega
      · rw [liveAt0_7_A t ((hcond0_0 t).mpr h0) ((hcond0_1 t).mpr h1) (fun h => h2 ((hcond0_2 t).mp h))] at hi
        exact absurd hi Bool.false_ne_true
    · exfalso; omega
  · by_cases h1 : t.val < 8
    · by_cases h2 : t.val % 9 = 8
      · exfalso; omega
      · rw [outsAt0_B m c t h0 h1 h2]
        dsimp only
        unfold out0_B_7
        rfl
    · by_cases h2 : t.val % 9 = 8
      · rw [outsAt0_C m c t h0 h1 h2]
        dsimp only
        unfold out0_C_7
        rfl
      · exfalso; omega

/-- Output 8's contents CARRY through the points that leave it idle: at such a point, its buffer not fresh, the proof data's
    `after` is the point before's (the case there stores nothing into the window and its term says so; a case that stores
    into it is not idle there by `liveAt0_8_κ`) — the hypothesis of Lib/Pipeline/TableIdle.lean `Dat.before_out_traj`. -/
theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 9 := lt_of_lt_of_eq t.isLt (show cfg0.N = 9 from N_0)
  rw [after0_8, after0_8]
  by_cases h0 : t.val % 9 = 0
  · by_cases h1 : t.val < 8
    · by_cases h2 : t.val % 9 = 8
      · exfalso; omega
      · rw [liveAt0_8_A t ((hcond0_0 t).mpr h0) ((hcond0_1 t).mpr h1) (fun h => h2 ((hcond0_2 t).mp h))] at hi
        exact absurd hi Bool.false_ne_true
    · exfalso; omega
  · by_cases h1 : t.val < 8
    · by_cases h2 : t.val % 9 = 8
      · exfalso; omega
      · rw [outsAt0_B m c t h0 h1 h2]
        dsimp only
        unfold out0_B_8
        rfl
    · by_cases h2 : t.val % 9 = 8
      · rw [outsAt0_C m c t h0 h1 h2]
        dsimp only
        unfold out0_C_8
        rfl
      · exfalso; omega
/-- At a point of case C output 7's current staging buffer holds what the point before left: the buffer is not fresh
    there (`notFresh0_7_C`: stored into since the region's entry or the last write-back, carried through the points that
    leave it idle by `hcarry0_7`; Lib/Pipeline/TableIdle.lean `Dat.before_out_traj`). -/
theorem before0_7_C (c : Dev nD) (t : Fin cfg0.N) (h0 : ¬t.val % 9 = 0) (h1 : ¬t.val < 8) (h2 : t.val % 9 = 8) (d) :
    (dats m 0 c).before 7 t d = (outsAt0 m c (t.val - 1) (Nat.lt_of_le_of_lt (Nat.sub_le _ _) t.isLt)).2.1 := by
  rw [Dat.before_out_traj _ 7 rfl (fun _ _ => rfl) (hcarry0_7 m c) t.val t rfl d,
    if_neg (by rw [notFresh0_7_C t (fun h => h0 ((hcond0_0 t).mp h)) (fun h => h1 ((hcond0_1 t).mp h)) ((hcond0_2 t).mpr h2)]; exact Bool.false_ne_true)]
  dsimp only [dats]
/-- At a point of case C output 8's current staging buffer holds what the point before left: the buffer is not fresh
    there (`notFresh0_8_C`: stored into since the region's entry or the last write-back, carried through the points that
    leave it idle by `hcarry0_8`; Lib/Pipeline/TableIdle.lean `Dat.before_out_traj`). -/
theorem before0_8_C (c : Dev nD) (t : Fin cfg0.N) (h0 : ¬t.val % 9 = 0) (h1 : ¬t.val < 8) (h2 : t.val % 9 = 8) (d) :
    (dats m 0 c).before 8 t d = (outsAt0 m c (t.val - 1) (Nat.lt_of_le_of_lt (Nat.sub_le _ _) t.isLt)).2.2.1 := by
  rw [Dat.before_out_traj _ 8 rfl (fun _ _ => rfl) (hcarry0_8 m c) t.val t rfl d,
    if_neg (by rw [notFresh0_8_C t (fun h => h0 ((hcond0_0 t).mp h)) (fun h => h1 ((hcond0_1 t).mp h)) ((hcond0_2 t).mpr h2)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  by_cases h0 : t.val % 9 = 0
  · by_cases h1 : t.val < 8
    · by_cases h2 : t.val % 9 = 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h))], after0_6]
        rw [show (dats m 0 c).leavesExact 7 t = owns (c : Thread nD τ) (ms0_7 t) fullShare ((dats m 0 c).after 7 t) from by
      unfold Dat.leavesExact; rw [liveAt0_7_A t ((hcond0_0 t).mpr h0) ((hcond0_1 t).mpr h1) (fun h => h2 ((hcond0_2 t).mp h))], after0_7]
        rw [show (dats m 0 c).leavesExact 8 t = owns (c : Thread nD τ) (ms0_8 t) fullShare ((dats m 0 c).after 8 t) from by
      unfold Dat.leavesExact; rw [liveAt0_8_A t ((hcond0_0 t).mpr h0) ((hcond0_1 t).mpr h1) (fun h => h2 ((hcond0_2 t).mp h))], after0_8]
        by_cases hz : t.val = 0
        · rw [PhiS_castSucc m c t, PhiS_zero m c _ _ hz, PhiA0_eq]
          rw [outsAt0_A m c t h0 h1 h2]
          unfold out0_A_6 out0_A_7 out0_A_8 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t)).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [HS0]; · iexact HS0
          isplitl [HS1]; · iexact HS1
          isplitl [HS2]; · iexact HS2
          iintro ⟨H0, H1, H2, H3, H4, H5, ⟨%e6, H6⟩, ⟨%e7, H7⟩, ⟨%e8, H8⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]
          · unfold owns; iexists _; isplitr
            swap; · iexact H6
            ipureintro; exact View.read_writes_of_cover _ _ _ _ _ (cover0_A_6 c _ _ _ _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _ _)
          unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _)
        · exfalso; have hN : t.val < 9 := lt_of_lt_of_eq t.isLt (show cfg0.N = 9 from N_0); omega
    · exfalso; omega
  · by_cases h1 : t.val < 8
    · by_cases h2 : t.val % 9 = 8
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1) (fun h => h2 ((hcond0_2 t).mp h))], after0_6]
        rw [Dat.leavesExact_idle (dats m 0 c) 7 t (idleAt0_7_B t (fun h => h0 ((hcond0_0 t).mp h)) ((hcond0_1 t).mpr h1) (fun h => h2 ((hcond0_2 t).mp h))) (noFlush0_7_B t (fun h => h0 ((hcond0_0 t).mp h)) ((hcond0_1 t).mpr h1) (fun h => h2 ((hcond0_2 t).mp h)))]
        rw [Dat.leavesExact_idle (dats m 0 c) 8 t (idleAt0_8_B t (fun h => h0 ((hcond0_0 t).mp h)) ((hcond0_1 t).mpr h1) (fun h => h2 ((hcond0_2 t).mp h))) (noFlush0_8_B t (fun h => h0 ((hcond0_0 t).mp h)) ((hcond0_1 t).mpr h1) (fun h => h2 ((hcond0_2 t).mp h)))]
        by_cases hz : t.val = 0
        · exfalso; have hN : t.val < 9 := lt_of_lt_of_eq t.isLt (show cfg0.N = 9 from N_0); omega
        · rw [PhiS_castSucc m c t, PhiS_pos m c _ _ hz]
          rw [outsAt0_B m c t h0 h1 h2]
          unfold out0_B_6 sout0_B_0 sout0_B_1 sout0_B_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) _ _ _).2.2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexact H7
          isplitl [H8]; · iexact H8
          isplitl [HS0]; · iexact HS0
          isplitl [HS1]; · iexact HS1
          isplitl [HS2]; · iexact HS2
          iintro ⟨H0, H1, H2, H3, H4, H5, ⟨%e6, H6⟩, H7, H8, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]
          · unfold owns; iexists _; isplitr
            swap; · iexact H6
            ipureintro; exact View.read_writes_of_cover _ _ _ _ _ (cover0_B_6 c _ _ _ _ _ _ _ _ _ _ _ _ _ _ _ _ _ _ _ _ _ _ _ _ _ _ _ _ _ _ _ _ _ _ _ _ _)
          isplitl [H7]; · iexists _; iexact H7
          iexists _; iexact H8
    · by_cases h2 : t.val % 9 = 8
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) (fun h => h1 ((hcond0_1 t).mp h)) ((hcond0_2 t).mpr h2)], after0_6]
        rw [show (dats m 0 c).leavesExact 7 t = owns (c : Thread nD τ) (ms0_7 t) fullShare ((dats m 0 c).after 7 t) from by
      unfold Dat.leavesExact; rw [idleAt0_7_C t (fun h => h0 ((hcond0_0 t).mp h)) (fun h => h1 ((hcond0_1 t).mp h)) ((hcond0_2 t).mpr h2), flushAt0_7_C t (fun h => h0 ((hcond0_0 t).mp h)) (fun h => h1 ((hcond0_1 t).mp h)) ((hcond0_2 t).mpr h2)], after0_7]
        rw [show (dats m 0 c).leavesExact 8 t = owns (c : Thread nD τ) (ms0_8 t) fullShare ((dats m 0 c).after 8 t) from by
      unfold Dat.leavesExact; rw [idleAt0_8_C t (fun h => h0 ((hcond0_0 t).mp h)) (fun h => h1 ((hcond0_1 t).mp h)) ((hcond0_2 t).mpr h2), flushAt0_8_C t (fun h => h0 ((hcond0_0 t).mp h)) (fun h => h1 ((hcond0_1 t).mp h)) ((hcond0_2 t).mpr h2)], after0_8]
        by_cases hz : t.val = 0
        · exfalso; have hN : t.val < 9 := lt_of_lt_of_eq t.isLt (show cfg0.N = 9 from N_0); omega
        · rw [PhiS_castSucc m c t, PhiS_pos m c _ _ hz]
          rw [outsAt0_C m c t h0 h1 h2]
          simp only [before0_7_C m c t h0 h1 h2, before0_8_C m c t h0 h1 h2]
          unfold out0_C_6 out0_C_7 out0_C_8 sout0_C_0 sout0_C_1 sout0_C_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) _ _ _ _ _).2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexact H7
          isplitl [H8]; · iexact H8
          isplitl [HS0]; · iexact HS0
          isplitl [HS1]; · iexact HS1
          isplitl [HS2]; · iexact HS2
          iintro ⟨H0, H1, H2, H3, H4, H5, ⟨%e6, H6⟩, H7, H8, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]
          · unfold owns; iexists _; isplitr
            swap; · iexact H6
            ipureintro; exact View.read_writes_of_cover _ _ _ _ _ (cover0_C_6 c _ _ _ _ _ _ _ _ _ _ _ _ _ _ _ _ _ _ _ _ _ _ _ _ _ _ _ _ _ _ _ _ _ _ _ _ _ _ _)
          isplitl [H7]; · iexact H7
          iexact H8
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame, at any `F`: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Run

end
-- ==== Proof.Value.Rope.lean ====
module

public import proofs.«01_k».proof.Proof.Run.Frame
public import proofs.«01_k».proof.Proof.Run.Loop
public import Idealize.ShloMosaic.Lib.Pointwise

@[expose] public section

set_option maxRecDepth 16384

noncomputable section

namespace Cert.KernelIdeal.Run

open Cert.KernelIdeal.Gen
open Idealize.ShloMosaic.Pointwise
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Column `n`'s partner under the rotation by half a head: the same head, 64 lanes further round. -/
def partner (n : Fin 1024) : Fin 1024 := ⟨128 * (n.val / 128) + (n.val % 128 + 64) % 128, by omega⟩

/-- A tile of projections with each of its eight heads rotated. -/
def ropeAt (T : FVec Ideal S256x1024 .f32) (cs sn : Vec Ideal S256x128 .f32) (r : Fin 256) (n : Fin 1024) : EReal :=
  T (ix2 r n) * cs (ix2 r ⟨n.val % 128, by omega⟩) + T (ix2 r (partner n)) * sn (ix2 r ⟨n.val % 128, by omega⟩)

/-- A rotated tile read at a column given by its head's first column and its lane. -/
theorem ropeAt_of (T : FVec Ideal S256x1024 .f32) (cs sn : Vec Ideal S256x128 .f32) (r r' : Fin 256) (n n' k : Fin 1024)
    (l : Fin 128) (hr : r'.val = r.val) (hk : k.val = n.val) (hl : n.val % 128 = l.val)
    (hn : n'.val = 128 * (n.val / 128) + (n.val % 128 + 64) % 128) :
    T (ix2 r n) * cs (ix2 r l) + T (ix2 r n') * sn (ix2 r l) = ropeAt T cs sn r' k := by
  obtain rfl : r' = r := Fin.ext hr
  obtain rfl : k = n := Fin.ext hk
  have e : (⟨k.val % 128, by omega⟩ : Fin 128) = l := Fin.ext hl
  have e' : partner k = n' := Fin.ext hn.symm
  unfold ropeAt
  rw [e, e']

/-- The store of head 0 of a tile. -/
theorem head0 (T : FVec Ideal S256x1024 .f32) (cs sn : Vec Ideal S256x128 .f32) (r r' : Fin 256) (l : Fin 128) (k : Fin 1024)
    (hr : r'.val = r.val) (hk : k.val = l.val) : k0_pay494 T cs sn (ix2 r l) = ropeAt T cs sn r' k := by
  pointwise [k0_pay494]
  exact ropeAt_of T cs sn r r' _ _ k l hr (by dsimp only; omega) (by dsimp only; omega) (by dsimp only; omega)

/-- The store of head 1 of a tile. -/
theorem head1 (T : FVec Ideal S256x1024 .f32) (cs sn : Vec Ideal S256x128 .f32) (r r' : Fin 256) (l : Fin 128) (k : Fin 1024)
    (hr : r'.val = r.val) (hk : k.val = 128 + l.val) : k0_pay495 T cs sn (ix2 r l) = ropeAt T cs sn r' k := by
  pointwise [k0_pay495]
  exact ropeAt_of T cs sn r r' _ _ k l hr (by dsimp only; omega) (by dsimp only; omega) (by dsimp only; omega)

/-- The store of head 2 of a tile. -/
theorem head2 (T : FVec Ideal S256x1024 .f32) (cs sn : Vec Ideal S256x128 .f32) (r r' : Fin 256) (l : Fin 128) (k : Fin 1024)
    (hr : r'.val = r.val) (hk : k.val = 256 + l.val) : k0_pay496 T cs sn (ix2 r l) = ropeAt T cs sn r' k := by
  pointwise [k0_pay496]
  exact ropeAt_of T cs sn r r' _ _ k l hr (by dsimp only; omega) (by dsimp only; omega) (by dsimp only; omega)

/-- The store of head 3 of a tile. -/
theorem head3 (T : FVec Ideal S256x1024 .f32) (cs sn : Vec Ideal S256x128 .f32) (r r' : Fin 256) (l : Fin 128) (k : Fin 1024)
    (hr : r'.val = r.val) (hk : k.val = 384 + l.val) : k0_pay500 (k0_pay498 T) (k0_pay499 T cs) sn (ix2 r l) = ropeAt T cs sn r' k := by
  pointwise [k0_pay500, k0_pay498, k0_pay499, k0_pay497]
  exact ropeAt_of T cs sn r r' _ _ k l hr (by dsimp only; omega) (by dsimp only; omega) (by dsimp only; omega)

/-- The store of head 4 of a tile. -/
theorem head4 (T : FVec Ideal S256x1024 .f32) (cs sn : Vec Ideal S256x128 .f32) (r r' : Fin 256) (l : Fin 128) (k : Fin 1024)
    (hr : r'.val = r.val) (hk : k.val = 512 + l.val) : k0_pay501 T cs sn (ix2 r l) = ropeAt T cs sn r' k := by
  pointwise [k0_pay501]
  exact ropeAt_of T cs sn r r' _ _ k l hr (by dsimp only; omega) (by dsimp only; omega) (by dsimp only; omega)

/-- The store of head 5 of a tile. -/
theorem head5 (T : FVec Ideal S256x1024 .f32) (cs sn : Vec Ideal S256x128 .f32) (r r' : Fin 256) (l : Fin 128) (k : Fin 1024)
    (hr : r'.val = r.val) (hk : k.val = 640 + l.val) : k0_pay502 T cs sn (ix2 r l) = ropeAt T cs sn r' k := by
  pointwise [k0_pay502]
  exact ropeAt_of T cs sn r r' _ _ k l hr (by dsimp only; omega) (by dsimp only; omega) (by dsimp only; omega)

/-- The store of head 6 of a tile. -/
theorem head6 (T : FVec Ideal S256x1024 .f32) (cs sn : Vec Ideal S256x128 .f32) (r r' : Fin 256) (l : Fin 128) (k : Fin 1024)
    (hr : r'.val = r.val) (hk : k.val = 768 + l.val) : k0_pay503 T cs sn (ix2 r l) = ropeAt T cs sn r' k := by
  pointwise [k0_pay503]
  exact ropeAt_of T cs sn r r' _ _ k l hr (by dsimp only; omega) (by dsimp only; omega) (by dsimp only; omega)

/-- The store of head 7 of a tile. -/
theorem head7 (T : FVec Ideal S256x1024 .f32) (cs sn : Vec Ideal S256x128 .f32) (r r' : Fin 256) (l : Fin 128) (k : Fin 1024)
    (hr : r'.val = r.val) (hk : k.val = 896 + l.val) : k0_pay6 (k0_pay504 T) cs sn (ix2 r l) = ropeAt T cs sn r' k := by
  pointwise [k0_pay6, k0_pay504]
  exact ropeAt_of T cs sn r r' _ _ k l hr (by dsimp only; omega) (by dsimp only; omega) (by dsimp only; omega)

/-- The eight heads' stores leave the rotated tile. -/
theorem rope_canon (T : FVec Ideal S256x1024 .f32) (cs sn : Vec Ideal S256x128 .f32) (r : Fin 256) (n : Fin 1024) :
    View.canon (Val := Elt Ideal) (e := .bf16)
      [⟨Rect.unit ![0, 896] ![256, 128] inb_S256x1024_S256x128_0_896, k0_pay6 (k0_pay504 T) cs sn⟩,
        ⟨Rect.unit ![0, 768] ![256, 128] inb_S256x1024_S256x128_0_768, k0_pay503 T cs sn⟩,
        ⟨Rect.unit ![0, 640] ![256, 128] inb_S256x1024_S256x128_0_640, k0_pay502 T cs sn⟩,
        ⟨Rect.unit ![0, 512] ![256, 128] inb_S256x1024_S256x128_0_512, k0_pay501 T cs sn⟩,
        ⟨Rect.unit ![0, 384] ![256, 128] inb_S256x1024_S256x128_0_384, k0_pay500 (k0_pay498 T) (k0_pay499 T cs) sn⟩,
        ⟨Rect.unit ![0, 256] ![256, 128] inb_S256x1024_S256x128_0_256, k0_pay496 T cs sn⟩,
        ⟨Rect.unit ![0, 128] ![256, 128] inb_S256x1024_S256x128_0_128, k0_pay495 T cs sn⟩,
        ⟨Rect.unit ![0, 0] ![256, 128] inb_S256x1024_S256x128_0_0, k0_pay494 T cs sn⟩] (ix2 r n) = ropeAt T cs sn r n := by
  canon_tiles x h
  · obtain ⟨a, b, rfl⟩ : ∃ (a : Fin 256) (b : Fin 128), x = ix2 a b := ⟨x 0, x 1, eq_ix2 x⟩
    exact head7 T cs sn a r b n h0 h1
  · obtain ⟨a, b, rfl⟩ : ∃ (a : Fin 256) (b : Fin 128), x = ix2 a b := ⟨x 0, x 1, eq_ix2 x⟩
    exact head6 T cs sn a r b n h0 h1
  · obtain ⟨a, b, rfl⟩ : ∃ (a : Fin 256) (b : Fin 128), x = ix2 a b := ⟨x 0, x 1, eq_ix2 x⟩
    exact head5 T cs sn a r b n h0 h1
  · obtain ⟨a, b, rfl⟩ : ∃ (a : Fin 256) (b : Fin 128), x = ix2 a b := ⟨x 0, x 1, eq_ix2 x⟩
    exact head4 T cs sn a r b n h0 h1
  · obtain ⟨a, b, rfl⟩ : ∃ (a : Fin 256) (b : Fin 128), x = ix2 a b := ⟨x 0, x 1, eq_ix2 x⟩
    exact head3 T cs sn a r b n h0 h1
  · obtain ⟨a, b, rfl⟩ : ∃ (a : Fin 256) (b : Fin 128), x = ix2 a b := ⟨x 0, x 1, eq_ix2 x⟩
    exact head2 T cs sn a r b n h0 h1
  · obtain ⟨a, b, rfl⟩ : ∃ (a : Fin 256) (b : Fin 128), x = ix2 a b := ⟨x 0, x 1, eq_ix2 x⟩
    exact head1 T cs sn a r b n h0 h1
  · obtain ⟨a, b, rfl⟩ : ∃ (a : Fin 256) (b : Fin 128), x = ix2 a b := ⟨x 0, x 1, eq_ix2 x⟩
    exact head0 T cs sn a r b n h0 h1

end Cert.KernelIdeal.Run

end
-- ==== Proof.Value.Spec.lean ====
/- The quantiser on one group of 128 values, over the extended reals: the kernel's power of two, found in the exponent
   field of the group's greatest size, is the reference's, found by a logarithm. -/
module

public import Idealize.ShloMosaic.Lib.Pointwise

@[expose] public section

noncomputable section

namespace Cert.Spec

open Idealize.ShloMosaic

/-! ## The normed rows -/

/-- A row's reciprocal root mean square. -/
def rS (x : Fin 256 → Fin 7168 → EReal) (r : Fin 256) : EReal :=
  Ideal.rsqrt (Ideal.div (∑ k, x r k * x r k) (Ideal.ofBits FTy.f32 0x45E00000#32) + Ideal.ofBits FTy.f32 0x3727C5AC#32)

/-- The normed row, with its weights. -/
def hS (x : Fin 256 → Fin 7168 → EReal) (nw : Fin 7168 → EReal) (r : Fin 256) (n : Fin 7168) : EReal := x r n * rS x r * nw n

/-- Column `l` of group `g`. -/
def col (g : Fin 56) (l : Fin 128) : Fin 7168 := ⟨g.val * 128 + l.val, by have := g.isLt; have := l.isLt; omega⟩

/-- The greatest size in a group. -/
def aS (x : Fin 256 → Fin 7168 → EReal) (nw : Fin 7168 → EReal) (r : Fin 256) (g : Fin 56) : EReal :=
  (Finset.univ : Finset (Fin 128)).fold max (Ideal.ofBits FTy.f32 0xFF800000#32) fun l => max (hS x nw r (col g l)) (-(hS x nw r (col g l)))

/-! ## The scale as the kernel finds it, and as the reference does -/

/-- The greatest `i << 23`, `i < 256`, whose float is not above `a / 448`. -/
def kE (a : EReal) : BitVec 32 :=
  (Finset.univ : Finset (Fin 256)).fold IntOp.maxsi 2147483648#32 fun i =>
    if a * Ideal.ofBits FTy.f32 991054117#32 < Ideal.ofBits FTy.f32 (IntOp.shli ArithUnit.vector (BitVec.ofNat 32 i.val) 23#32) then 0#32
    else IntOp.shli ArithUnit.vector (BitVec.ofNat 32 i.val) 23#32

/-- The kernel's scale. -/
def kS (e : BitVec 32) : EReal := Scalar.select (IntOp.cmpi CmpIPredicate.eq e 0#32) 1 (Ideal.ofBits FTy.f32 (IntOp.addi e 8388608#32))

/-- The kernel's reciprocal of it. -/
def kI (e : BitVec 32) : EReal := Scalar.select (IntOp.cmpi CmpIPredicate.eq e 0#32) 1 (Ideal.ofBits FTy.f32 (IntOp.subi 2122317824#32 e))

/-- The reference's exponent. -/
def rE (a : EReal) : EReal :=
  Scalar.select (Ideal.cmp CmpFPredicate.oeq a (Ideal.ofBits FTy.f32 0x00000000#32)) (Ideal.ofBits FTy.f32 0x00000000#32)
    (Scalar.select (Ideal.cmp CmpFPredicate.olt (a * Ideal.ofBits FTy.f32 0x3B124925#32) (Ideal.ofBits FTy.f32 0x00800000#32)) (Ideal.ofBits FTy.f32 0x00000000#32)
      (Ideal.liftRound Int.floor (Ideal.div (Ideal.log (a * Ideal.ofBits FTy.f32 0x3B124925#32)) (Ideal.log (Ideal.ofBits FTy.f32 0x40000000#32))) + Ideal.ofBits FTy.f32 0x3F800000#32))

/-- The rotation's frequency `l`. -/
def freq (l : ℕ) : EReal :=
  Ideal.pow (Ideal.ofBits FTy.f32 1223959552#32)
    (Ideal.div (-(Ideal.ofBits FTy.f32 1073741824#32 * FloatOps.sitofp (F := Ideal) FTy.f32 (BitVec.ofNat 32 l))) (Ideal.ofBits FTy.f32 1124073472#32))

/-! ## Words as floats -/

/-- The word with `i` in its exponent field. -/
theorem shl_eq : ∀ i : Fin 256, IntOp.shli ArithUnit.vector (BitVec.ofNat 32 i.val) 23#32 = BitVec.ofNat 32 (i.val * 8388608) := by decide +kernel

/-- As an integer it is `i * 2 ^ 23`. -/
theorem toInt_word : ∀ i : Fin 256, (BitVec.ofNat 32 (i.val * 8388608)).toInt = (i.val : ℤ) * 8388608 := by decide +kernel

/-- Its fields. -/
theorem fields : ∀ i : Fin 256, ((BitVec.ofNat 32 (i.val * 8388608)).extractLsb' 23 8).toNat = i.val
    ∧ ((BitVec.ofNat 32 (i.val * 8388608)).extractLsb' 0 23).toNat = 0 ∧ ((BitVec.ofNat 32 (i.val * 8388608)).extractLsb' (8 + 23) 1 == 1#1) = false := by decide +kernel

/-- For a normal number's exponent field the word is a power of two. -/
theorem word_pow (i : Fin 256) (h0 : 1 ≤ i.val) (h1 : i.val ≤ 254) :
    Ideal.ofBits FTy.f32 (BitVec.ofNat 32 (i.val * 8388608)) = (((2 : ℝ) ^ ((i.val : ℤ) - 127) : ℝ) : EReal) := by
  obtain ⟨h2, h3, h4⟩ := fields i
  show Ideal.ieee 8 23 (BitVec.ofNat 32 (i.val * 8388608)) = _
  unfold Ideal.ieee
  dsimp only
  rw [h2, h3, h4, if_neg (by omega), if_neg (by omega)]
  congr 1
  have e : ((i.val : ℤ) - 127) = 23 + ((i.val : ℤ) - (2 ^ (8 - 1) - 1) - (23 : ℕ)) := by push_cast; ring
  rw [e, zpow_add₀ (by norm_num)]
  norm_num

/-- The zero word is zero. -/
theorem word_zero : Ideal.ofBits FTy.f32 (BitVec.ofNat 32 ((0 : Fin 256).val * 8388608)) = 0 := by
  show Ideal.ieee 8 23 (BitVec.ofNat 32 ((0 : Fin 256).val * 8388608)) = 0
  obtain ⟨h2, h3, h4⟩ := fields 0
  unfold Ideal.ieee
  dsimp only
  rw [h2, h3, h4]
  simp

/-- The word with every exponent bit is plus infinity. -/
theorem word_top : Ideal.ofBits FTy.f32 (BitVec.ofNat 32 ((255 : Fin 256).val * 8388608)) = ⊤ := by
  show Ideal.ieee 8 23 (BitVec.ofNat 32 ((255 : Fin 256).val * 8388608)) = ⊤
  obtain ⟨h2, h3, h4⟩ := fields 255
  unfold Ideal.ieee
  dsimp only
  rw [h2, h3, h4]
  simp

/-- The words' floats are not negative. -/
theorem word_nonneg (i : Fin 256) : 0 ≤ Ideal.ofBits FTy.f32 (BitVec.ofNat 32 (i.val * 8388608)) := by
  rcases Nat.eq_zero_or_pos i.val with h | h
  · have : i = 0 := Fin.ext h
    rw [this, word_zero]
  · by_cases h' : i.val ≤ 254
    · rw [word_pow i h h']; exact_mod_cast (by positivity : (0:ℝ) ≤ (2:ℝ) ^ ((i.val : ℤ) - 127))
    · have : i = 255 := Fin.ext (by have := i.isLt; show i.val = 255; omega)
      rw [this, word_top]; exact le_top

/-- The exponent word is the one of lane `j`, if `j` is the last lane whose float is not above `y`. -/
theorem kE_eq (a : EReal) (j : Fin 256) (hj : ¬ a * Ideal.ofBits FTy.f32 991054117#32 < Ideal.ofBits FTy.f32 (BitVec.ofNat 32 (j.val * 8388608)))
    (hi : ∀ i : Fin 256, j.val < i.val → a * Ideal.ofBits FTy.f32 991054117#32 < Ideal.ofBits FTy.f32 (BitVec.ofNat 32 (i.val * 8388608))) :
    kE a = BitVec.ofNat 32 (j.val * 8388608) := by
  have hmax : ∀ x y : BitVec 32, (IntOp.maxsi x y).toInt = max x.toInt y.toInt := by
    intro x y
    unfold IntOp.maxsi
    split <;> rename_i h <;> simp only [BitVec.slt, BitVec.sle, decide_eq_true_eq] at h <;> omega
  apply BitVec.eq_of_toInt_eq
  unfold kE
  rw [← Finset.fold_hom (op := IntOp.maxsi) (op' := max) (m := BitVec.toInt) hmax, toInt_word]
  apply le_antisymm
  · rw [Finset.fold_max_le]
    refine ⟨by have : (2147483648#32).toInt = -2147483648 := by decide +kernel
               rw [this]; have := j.isLt; omega, fun i _ => ?_⟩
    rw [shl_eq]
    split
    · show (0 : ℤ) ≤ _; positivity
    · rename_i h
      rw [toInt_word]
      have : i.val ≤ j.val := by
        by_contra h'
        exact h (hi i (by omega))
      have : (i.val : ℤ) ≤ j.val := by exact_mod_cast this
      omega
  · rw [Finset.le_fold_max]
    refine .inr ⟨j, Finset.mem_univ _, ?_⟩
    rw [shl_eq, if_neg hj, toInt_word]

/-! ## The two scales are one -/

/-- The constant two. -/
theorem ofBits_two : Ideal.ofBits FTy.f32 0x40000000#32 = ((2 : ℝ) : EReal) := by
  have := word_pow 128 (by decide) (by decide)
  rw [show (BitVec.ofNat 32 ((128 : Fin 256).val * 8388608)) = 0x40000000#32 from by decide] at this
  rw [this]; norm_num

/-- The constant one. -/
theorem ofBits_one : Ideal.ofBits FTy.f32 0x3F800000#32 = ((1 : ℝ) : EReal) := by
  have := word_pow 127 (by decide) (by decide)
  rw [show (BitVec.ofNat 32 ((127 : Fin 256).val * 8388608)) = 0x3F800000#32 from by decide] at this
  rw [this]; norm_num

/-- The least normal number. -/
theorem ofBits_min : Ideal.ofBits FTy.f32 0x00800000#32 = (((2 : ℝ) ^ (-126 : ℤ) : ℝ) : EReal) := by
  have := word_pow 1 (by decide) (by decide)
  rw [show (BitVec.ofNat 32 ((1 : Fin 256).val * 8388608)) = 0x00800000#32 from by decide] at this
  rw [this]; norm_num

/-- The constant zero. -/
theorem ofBits_zero : Ideal.ofBits FTy.f32 0x00000000#32 = ((0 : ℝ) : EReal) := by
  have := word_zero
  rw [show (BitVec.ofNat 32 ((0 : Fin 256).val * 8388608)) = 0x00000000#32 from by decide] at this
  rw [this]; norm_num

/-- For a size `a ≥ 0` with `a / 448 < 2 ^ 126` the kernel's scale and its reciprocal are the reference's. -/
theorem scale_eq (a : EReal) (h0 : 0 ≤ a * Ideal.ofBits FTy.f32 0x3B124925#32) (h1 : a * Ideal.ofBits FTy.f32 0x3B124925#32 < (((2 : ℝ) ^ (126 : ℤ) : ℝ) : EReal)) :
    kS (kE a) = Ideal.exp2 (rE a) ∧ kI (kE a) = Ideal.exp2 (0 - rE a) := by
  obtain ⟨q, hq⟩ : ∃ q : ℝ, a * Ideal.ofBits FTy.f32 0x3B124925#32 = (q : EReal) := by
    refine ⟨(a * Ideal.ofBits FTy.f32 0x3B124925#32).toReal, (EReal.coe_toReal ?_ ?_).symm⟩
    · exact ne_top_of_lt h1
    · intro h; rw [h] at h0; exact absurd h0 (by simp)
  rw [hq] at h0 h1
  have hq0 : 0 ≤ q := by exact_mod_cast h0
  have hq1 : q < (2 : ℝ) ^ (126 : ℤ) := by exact_mod_cast h1
  have e2 : (1 : ℝ) < 2 := by norm_num
  by_cases hs : q < (2 : ℝ) ^ (-126 : ℤ)
  · have hk : kE a = BitVec.ofNat 32 ((0 : Fin 256).val * 8388608) := by
      apply kE_eq
      · rw [word_zero]; exact not_lt.2 (by rw [show (991054117#32) = 0x3B124925#32 from rfl, hq]; exact_mod_cast hq0)
      · intro i hi
        have hi : 0 < i.val := hi
        rw [show (991054117#32) = 0x3B124925#32 from rfl, hq]
        by_cases h' : i.val ≤ 254
        · rw [word_pow i hi h']
          have : (2 : ℝ) ^ (-126 : ℤ) ≤ (2 : ℝ) ^ ((i.val : ℤ) - 127) := zpow_le_zpow_right₀ e2.le (by omega)
          exact_mod_cast lt_of_lt_of_le hs this
        · have : i = 255 := Fin.ext (by have := i.isLt; show i.val = 255; omega)
          rw [this, word_top]; exact EReal.coe_lt_top q
    have hr : rE a = ((0 : ℝ) : EReal) := by
      unfold rE
      rw [hq, ofBits_min, ofBits_zero]
      have : Ideal.cmp CmpFPredicate.olt (q : EReal) (((2 : ℝ) ^ (-126 : ℤ) : ℝ) : EReal) = 1#1 := by
        have : (q : EReal) < (((2 : ℝ) ^ (-126 : ℤ) : ℝ) : EReal) := by exact_mod_cast hs
        simp only [Ideal.cmp, this, if_true]; rfl
      rw [this]
      unfold Scalar.select
      split <;> rfl
    rw [hk, hr]
    have e1 : ∀ z : EReal, Scalar.select (IntOp.cmpi CmpIPredicate.eq (BitVec.ofNat 32 ((0 : Fin 256).val * 8388608)) 0#32) 1 z = (1 : EReal) := fun z => by
      rw [show IntOp.cmpi CmpIPredicate.eq (BitVec.ofNat 32 ((0 : Fin 256).val * 8388608)) 0#32 = 1#1 from by decide]; rfl
    have e3 : Ideal.exp2 ((0 : ℝ) : EReal) = 1 := by
      show (((2 : ℝ) ^ (0 : ℝ) : ℝ) : EReal) = 1
      simp
    refine ⟨(e1 _).trans e3.symm, (e1 _).trans ?_⟩
    rw [show (0 : EReal) - ((0 : ℝ) : EReal) = ((0 : ℝ) : EReal) from by simp, e3]
  · have hs := not_lt.1 hs
    have hqp : 0 < q := lt_of_lt_of_le (by positivity) hs
    have lp : 0 < Real.log 2 := Real.log_pos e2
    obtain ⟨z, hz⟩ : ∃ z : ℤ, z = ⌊Real.log q / Real.log 2⌋ := ⟨_, rfl⟩
    have z1 : (2 : ℝ) ^ z ≤ q := by
      rw [← Real.log_le_log_iff (by positivity) hqp, Real.log_zpow, ← le_div_iff₀ lp, hz]
      exact Int.floor_le _
    have z2 : q < (2 : ℝ) ^ (z + 1) := by
      rw [← Real.log_lt_log_iff hqp (by positivity), Real.log_zpow, ← div_lt_iff₀ lp, hz]
      push_cast
      exact Int.lt_floor_add_one _
    have z3 : -126 ≤ z := by
      by_contra h
      have : (2 : ℝ) ^ (z + 1) ≤ (2 : ℝ) ^ (-126 : ℤ) := zpow_le_zpow_right₀ e2.le (by omega)
      linarith
    have z4 : z ≤ 125 := by
      by_contra h
      have : (2 : ℝ) ^ (126 : ℤ) ≤ (2 : ℝ) ^ z := zpow_le_zpow_right₀ e2.le (by omega)
      linarith
    obtain ⟨j, hj⟩ : ∃ j : ℕ, (j : ℤ) = z + 127 := ⟨(z + 127).toNat, by omega⟩
    have j1 : 1 ≤ j := by omega
    have j2 : j ≤ 252 := by omega
    have hk : kE a = BitVec.ofNat 32 (((⟨j, by omega⟩ : Fin 256)).val * 8388608) := by
      apply kE_eq
      · rw [show (991054117#32) = 0x3B124925#32 from rfl, hq, word_pow ⟨j, by omega⟩ j1 (by show j ≤ 254; omega)]
        show ¬ _ < (((2 : ℝ) ^ ((j : ℤ) - 127) : ℝ) : EReal)
        rw [show (j : ℤ) - 127 = z from by omega]
        exact not_lt.2 (by exact_mod_cast z1)
      · intro i hi
        have hi : j < i.val := hi
        rw [show (991054117#32) = 0x3B124925#32 from rfl, hq]
        by_cases h' : i.val ≤ 254
        · rw [word_pow i (by omega) h']
          have : (2 : ℝ) ^ (z + 1) ≤ (2 : ℝ) ^ ((i.val : ℤ) - 127) := zpow_le_zpow_right₀ e2.le (by omega)
          exact_mod_cast lt_of_lt_of_le z2 this
        · have : i = 255 := Fin.ext (by have := i.isLt; show i.val = 255; omega)
          rw [this, word_top]; exact EReal.coe_lt_top q
    have hr : rE a = (((z + 1 : ℤ) : ℝ) : EReal) := by
      unfold rE
      rw [hq, ofBits_min, ofBits_zero, ofBits_two, ofBits_one]
      have c1 : Ideal.cmp CmpFPredicate.olt (q : EReal) (((2 : ℝ) ^ (-126 : ℤ) : ℝ) : EReal) = 0#1 := by
        have : ¬ (q : EReal) < (((2 : ℝ) ^ (-126 : ℤ) : ℝ) : EReal) := not_lt.2 (by exact_mod_cast hs)
        simp only [Ideal.cmp, this, if_false]; rfl
      have c2 : Ideal.cmp CmpFPredicate.oeq a ((0 : ℝ) : EReal) = 0#1 := by
        have : ¬ a = ((0 : ℝ) : EReal) := by
          intro h
          rw [h] at hq
          rw [EReal.coe_zero, zero_mul] at hq
          have : (0 : ℝ) = q := by exact_mod_cast hq
          linarith
        simp only [Ideal.cmp, this, if_false]; rfl
      rw [c1, c2]
      show Ideal.liftRound Int.floor (Ideal.div (Ideal.log (q : EReal)) (Ideal.log ((2 : ℝ) : EReal))) + ((1 : ℝ) : EReal) = _
      have l1 : Ideal.log (q : EReal) = ((Real.log q : ℝ) : EReal) := by
        show (if q ≤ 0 then (⊥ : EReal) else ((Real.log q : ℝ) : EReal)) = _
        rw [if_neg (not_le.2 hqp)]
      have l2 : Ideal.log ((2 : ℝ) : EReal) = ((Real.log 2 : ℝ) : EReal) := by
        show (if (2 : ℝ) ≤ 0 then (⊥ : EReal) else ((Real.log 2 : ℝ) : EReal)) = _
        rw [if_neg (by norm_num)]
      have l3 : Ideal.div ((Real.log q : ℝ) : EReal) ((Real.log 2 : ℝ) : EReal) = ((Real.log q / Real.log 2 : ℝ) : EReal) := by
        unfold Ideal.div
        rw [if_neg (by have : Real.log 2 ≠ 0 := (Real.log_pos e2).ne'
                       exact_mod_cast this)]
        rw [← EReal.coe_inv, ← EReal.coe_mul, div_eq_mul_inv]
      rw [l1, l2, l3]
      show (((⌊Real.log q / Real.log 2⌋ : ℤ) : ℝ) : EReal) + ((1 : ℝ) : EReal) = _
      have l4 : ⌊Real.log q / Real.log 2⌋ = z := by
        exact hz.symm
      rw [l4]; push_cast; rfl
    have e1 : ∀ w : EReal, Scalar.select (IntOp.cmpi CmpIPredicate.eq (BitVec.ofNat 32 (((⟨j, by omega⟩ : Fin 256)).val * 8388608)) 0#32) 1 w = w := fun w => by
      have : ∀ i : Fin 256, 1 ≤ i.val → IntOp.cmpi CmpIPredicate.eq (BitVec.ofNat 32 (i.val * 8388608)) 0#32 = 0#1 := by decide +kernel
      rw [this _ j1]; rfl
    have p1 : ∀ i : Fin 256, i.val ≤ 253 → ∃ k : Fin 256, k.val = i.val + 1 ∧ IntOp.addi (BitVec.ofNat 32 (i.val * 8388608)) 8388608#32 = BitVec.ofNat 32 (k.val * 8388608) := by decide +kernel
    have p2 : ∀ i : Fin 256, i.val ≤ 252 → ∃ k : Fin 256, k.val = 253 - i.val ∧ IntOp.subi 2122317824#32 (BitVec.ofNat 32 (i.val * 8388608)) = BitVec.ofNat 32 (k.val * 8388608) := by decide +kernel
    have x2 : ∀ w : ℤ, Ideal.exp2 (((w : ℤ) : ℝ) : EReal) = (((2 : ℝ) ^ w : ℝ) : EReal) := fun w => by
      show (((2 : ℝ) ^ ((w : ℤ) : ℝ) : ℝ) : EReal) = _
      rw [Real.rpow_intCast]
    rw [hk, hr]
    constructor
    · unfold kS
      rw [e1, x2]
      obtain ⟨k, k1, k2⟩ := p1 ⟨j, by omega⟩ (by show j ≤ 253; omega)
      have k1 : k.val = j + 1 := k1
      rw [k2, word_pow k (by omega) (by omega), show ((k.val : ℤ) - 127) = z + 1 from by omega]
    · unfold kI
      have : (0 : EReal) - (((z + 1 : ℤ) : ℝ) : EReal) = (((-(z + 1) : ℤ) : ℝ) : EReal) := by
        rw [zero_sub, ← EReal.coe_neg]; push_cast; rfl
      rw [e1, this, x2]
      obtain ⟨k, k1, k2⟩ := p2 ⟨j, by omega⟩ j2
      have k1 : k.val = 253 - j := k1
      rw [k2, word_pow k (by omega) (by omega), show ((k.val : ℤ) - 127) = -(z + 1) from by omega]

end Cert.Spec
-- ==== Proof.Value.Cases.lean ====
module

public import proofs.«01_k».proof.Proof.Run.Frame
public import proofs.«01_k».proof.Proof.Run.Loop
public import Idealize.ShloMosaic.Lib.Pointwise
public import proofs.«01_k».proof.Proof.Value.Rope
public import proofs.«01_k».proof.Proof.Value.Spec

@[expose] public section

set_option maxRecDepth 16384

noncomputable section

namespace Cert.KernelIdeal.Run

open Cert.KernelIdeal.Gen
open Idealize.ShloMosaic.Pointwise
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A middle point writes its rotated tile. -/
theorem out_B (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : cond0_1 i) (hc2 : ¬cond0_2 i) (x0 : Vec Ideal S256x7168 .bf16) (x1 : Vec Ideal S1x7168 .bf16) (x2 : Vec Ideal S7168x1024 .fp8e4m3) (x3 : Vec Ideal S1x1024 .f32) (x4 : Vec Ideal S256x1 .i32) (x5 : Vec Ideal S1x128 .f32) (xs0 : Vec Ideal S256x7168 .bf16) (xs1 : Vec Ideal S256x128 .f32) (xs2 : Vec Ideal S256x128 .f32) (r : Fin 256) (n : Fin 1024) :
    out0_B_6 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2 (ix2 r n) = ropeAt (k0_pay5 xs0 x2 x3) xs1 xs2 r n := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xs0 xs1 xs2)]
  unfold kernelRun0_B
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_lit', View.canon_cons_unit_lit', View.readCov_unit_lit']
  exact rope_canon (k0_pay5 xs0 x2 x3) xs1 xs2 r n

/-- The last point writes its tile as it is. -/
theorem out_C (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : ¬cond0_0 i) (hc1 : ¬cond0_1 i) (hc2 : cond0_2 i) (x0 : Vec Ideal S256x7168 .bf16) (x1 : Vec Ideal S1x7168 .bf16) (x2 : Vec Ideal S7168x1024 .fp8e4m3) (x3 : Vec Ideal S1x1024 .f32) (x4 : Vec Ideal S256x1 .i32) (x5 : Vec Ideal S1x128 .f32) (xo7 : Vec Ideal S256x7168 .fp8e4m3) (xo8 : Vec Ideal S256x56 .f32) (xs0 : Vec Ideal S256x7168 .bf16) (xs1 : Vec Ideal S256x128 .f32) (xs2 : Vec Ideal S256x128 .f32)  :
    out0_C_6 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xo7 xo8 xs0 xs1 xs2  = k0_pay7 xs0 x2 x3 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 xo7 xo8 xs0 xs1 xs2)]
  unfold kernelRun0_C
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_lit', View.canon_cons_unit_lit', View.readCov_unit_lit']

/-- The first point writes its rotated tile. -/
theorem out_A (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i) (x0 : Vec Ideal S256x7168 .bf16) (x1 : Vec Ideal S1x7168 .bf16) (x2 : Vec Ideal S7168x1024 .fp8e4m3) (x3 : Vec Ideal S1x1024 .f32) (x4 : Vec Ideal S256x1 .i32) (x5 : Vec Ideal S1x128 .f32)  (r : Fin 256) (n : Fin 1024) :
    out0_A_6 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 (ix2 r n) = ropeAt (k0_pay5 (arrXA c i arg1 harg1 arg2 harg2 arg3 harg3 arg4 harg4 arg5 harg5 arg6 harg6 arg7 harg7 arg8 harg8 arg9 harg9 arg10 harg10 arg11 harg11 arg12 harg12 hc0 x0 x1) x2 x3) (k0_pay3 x4 x5) (k0_pay4 x4 x5) r n := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5)]
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_lit', View.canon_cons_unit_lit', View.readCov_unit_lit']
  exact rope_canon (k0_pay5 (arrXA c i arg1 harg1 arg2 harg2 arg3 harg3 arg4 harg4 arg5 harg5 arg6 harg6 arg7 harg7 arg8 harg8 arg9 harg9 arg10 harg10 arg11 harg11 arg12 harg12 hc0 x0 x1) x2 x3) (k0_pay3 x4 x5) (k0_pay4 x4 x5) r n

/-- The first point leaves the codes the loop stored. -/
theorem codes_A (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i) (x0 : Vec Ideal S256x7168 .bf16) (x1 : Vec Ideal S1x7168 .bf16) (x2 : Vec Ideal S7168x1024 .fp8e4m3) (x3 : Vec Ideal S1x1024 .f32) (x4 : Vec Ideal S256x1 .i32) (x5 : Vec Ideal S1x128 .f32)   :
    out0_A_7 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5  = View.canon (pb_k0_t1 Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) k0_t1_loop.trips).1 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5)]
  unfold kernelRun0_A
  dsimp only

/-- The first point leaves the scales the loop stored. -/
theorem scales_A (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i) (x0 : Vec Ideal S256x7168 .bf16) (x1 : Vec Ideal S1x7168 .bf16) (x2 : Vec Ideal S7168x1024 .fp8e4m3) (x3 : Vec Ideal S1x1024 .f32) (x4 : Vec Ideal S256x1 .i32) (x5 : Vec Ideal S1x128 .f32)   :
    out0_A_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5  = View.canon (pb_k0_t1 Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) k0_t1_loop.trips).2.1 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5)]
  unfold kernelRun0_A
  dsimp only

/-- The first point keeps the dequantised rows the loop stored. -/
theorem xa_A (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i) (x0 : Vec Ideal S256x7168 .bf16) (x1 : Vec Ideal S1x7168 .bf16) (x2 : Vec Ideal S7168x1024 .fp8e4m3) (x3 : Vec Ideal S1x1024 .f32) (x4 : Vec Ideal S256x1 .i32) (x5 : Vec Ideal S1x128 .f32)   :
    sout0_A_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5  = arrXA c i arg1 harg1 arg2 harg2 arg3 harg3 arg4 harg4 arg5 harg5 arg6 harg6 arg7 harg7 arg8 harg8 arg9 harg9 arg10 harg10 arg11 harg11 arg12 harg12 hc0 x0 x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5)]
  unfold kernelRun0_A
  dsimp only
  rfl

/-- The first point keeps the cosines. -/
theorem cos_A (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i) (x0 : Vec Ideal S256x7168 .bf16) (x1 : Vec Ideal S1x7168 .bf16) (x2 : Vec Ideal S7168x1024 .fp8e4m3) (x3 : Vec Ideal S1x1024 .f32) (x4 : Vec Ideal S256x1 .i32) (x5 : Vec Ideal S1x128 .f32)   :
    sout0_A_1 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5  = k0_pay3 x4 x5 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5)]
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_lit', View.canon_cons_unit_lit', View.readCov_unit_lit']

/-- The first point keeps the sines, negated in the lower half. -/
theorem sin_A (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (hc1 : cond0_1 i) (hc2 : ¬cond0_2 i) (x0 : Vec Ideal S256x7168 .bf16) (x1 : Vec Ideal S1x7168 .bf16) (x2 : Vec Ideal S7168x1024 .fp8e4m3) (x3 : Vec Ideal S1x1024 .f32) (x4 : Vec Ideal S256x1 .i32) (x5 : Vec Ideal S1x128 .f32)   :
    sout0_A_2 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5  = k0_pay4 x4 x5 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5)]
  unfold kernelRun0_A
  dsimp only
  sl_unfold_words
  simp (disch := decide) only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_lit', View.canon_cons_unit_lit', View.readCov_unit_lit']

end Cert.KernelIdeal.Run

end
-- ==== Proof.Value.Quant.lean ====
module

public import proofs.«01_k».proof.Proof.Run.Frame
public import proofs.«01_k».proof.Proof.Run.Loop
public import Idealize.ShloMosaic.Lib.Pointwise
public import proofs.«01_k».proof.Proof.Value.Rope
public import proofs.«01_k».proof.Proof.Value.Spec

@[expose] public section

set_option maxRecDepth 16384

noncomputable section

namespace Cert.KernelIdeal.Run

open Cert.KernelIdeal.Gen
open Idealize.ShloMosaic.Pointwise
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Spec (rS hS aS kE kS kI col)

/-! ## One group, one trip -/

/-- The group's index of a column, and the column's lane in it. -/
def grp (n : Fin 7168) : Fin 56 := ⟨n.val / 128, by omega⟩

/-- The code of a place. -/
def codeAt (x : Fin 256 → Fin 7168 → EReal) (nw : Fin 7168 → EReal) (r : Fin 256) (n : Fin 7168) : EReal :=
  min (Ideal.ofBits FTy.f32 1138753536#32) (max (Ideal.ofBits FTy.f32 3286237184#32) (hS x nw r n * kI (kE (aS x nw r (grp n)))))

/-- A normed entry. -/
theorem qH_at (rs : FVec Ideal S32x1 .f32) (xb : Vec Ideal S32x128 .bf16) (nb : Vec Ideal S1x128 .bf16) (r : Fin 32) (l : Fin 128) :
    qH rs xb nb (ix2 r l) = xb (ix2 r l) * rs (ix2 r 0) * nb (ix2 0 l) := by
  pointwise [qH]

/-- A row's reciprocal root mean square. -/
theorem pay8_at (v : Vec Ideal S32x7168 .bf16) (r : Fin 32) :
    k0_pay8 v (ix2 r 0) = Ideal.rsqrt (Ideal.div (∑ n, v (ix2 r n) * v (ix2 r n)) (Ideal.ofBits FTy.f32 0x45E00000#32) + Ideal.ofBits FTy.f32 0x3727C5AC#32) := by
  pointwise [k0_pay8]

/-- The greatest size in a group. -/
theorem qA_at (h : FVec Ideal S32x128 .f32) (r : Fin 32) :
    qA h (ix2 r 0) = (Finset.univ : Finset (Fin 128)).fold max (Ideal.ofBits FTy.f32 0xFF800000#32) fun l => max (h (ix2 r l)) (-(h (ix2 r l))) := by
  pointwise [qA]
  rfl

/-- Its exponent field. -/
theorem qE_at (a : FVec Ideal S32x1 .f32) (r : Fin 32) : qE a (ix2 r 0) = kE (a (ix2 r 0)) := by
  pointwise [qE]
  rfl

/-- The scale of the field. -/
theorem qS_at (e : IVec S32x1 32) (r : Fin 32) : qS (F := Ideal) e (ix2 r 0) = kS (e (ix2 r 0)) := by
  pointwise [qS, qZ]
  rfl

/-- The reciprocal of the scale. -/
theorem qI_at (e : IVec S32x1 32) (r : Fin 32) : qI (F := Ideal) e (ix2 r 0) = kI (e (ix2 r 0)) := by
  pointwise [qI, qZ]
  rfl

/-- The code. -/
theorem qC_at (h : FVec Ideal S32x128 .f32) (r : Fin 32) (l : Fin 128) :
    qC h (ix2 r l) = min (Ideal.ofBits FTy.f32 1138753536#32) (max (Ideal.ofBits FTy.f32 3286237184#32) (h (ix2 r l) * kI (kE (qA h (ix2 r 0))))) := by
  rw [← qE_at, ← qI_at]
  pointwise [qC]

/-- The code times its scale. -/
theorem qXA_at (h : FVec Ideal S32x128 .f32) (r : Fin 32) (l : Fin 128) :
    qXA h (ix2 r l) = qC h (ix2 r l) * kS (kE (qA h (ix2 r 0))) := by
  rw [← qE_at, ← qS_at]
  pointwise [qXA]

/-- The scales with a group's lane set. -/
theorem qStep_at (g : BitVec 32) (p h : FVec Ideal S32x128 .f32) (r : Fin 32) (l : Fin 128) :
    qStep g p h (ix2 r l) = if BitVec.ofNat 32 l.val = g then kS (kE (qA h (ix2 r 0))) else p (ix2 r l) := by
  rw [← qE_at, ← qS_at]
  pointwise [qStep]
  by_cases e : BitVec.ofNat 32 l.val = g
  · rw [if_pos e, e]
    simp [IntOp.cmpi, Scalar.select]
  · rw [if_neg e]
    have e' : (BitVec.ofNat 32 l.val == g) = false := beq_eq_false_iff_ne.mpr e
    simp [IntOp.cmpi, Scalar.select, e']

/-- A group of a trip is the normed row's group. -/
theorem hG_at (arg1 : Memref sig .tc .vmem S256x7168 .bf16) (harg1 : arg1.IsWhole) (arg2 : Memref sig .tc .vmem S1x7168 .bf16) (harg2 : arg2.IsWhole)
    (x0 : Vec Ideal S256x7168 .bf16) (x1 : Vec Ideal S1x7168 .bf16) (k : Fin k0_t1_loop.trips) (g : Fin 56) (r : Fin 32) (l : Fin 128) (R : Fin 256) (hR : R.val = 32 * k.val + r.val) :
    hG arg1 arg2 (harg1.unread x0) (harg2.unread x1) k g (ix2 r l)
      = hS (fun a b => x0 (ix2 a b)) (fun b => x1 (ix2 0 b)) R (col g l) := by
  have e1 : ∀ n : Fin 7168, View.readAt (Elt Ideal) arg1.view (Rect.unit (s := S256x7168) ![offw k, 0] S32x7168.size (inb_r k)).toLoadRect (harg1.unread x0) (ix2 r n)
      = x0 (ix2 R n) := by
    intro n
    rw [View.readAt_eq_ld, harg1.read_unread, View.ld_apply]
    refine congrArg x0 (funext fun a => Fin.ext ?_)
    refine (ValueKit.rect_emb_unit_val _ _ _ _ a).trans ?_
    have hk := offw_eq k
    match a with
    | 0 => show offw k + r.val = R.val; omega
    | 1 => show 0 + n.val = n.val; omega
  have e2 : View.readAt (Elt Ideal) arg1.view (Rect.unit (s := S256x7168) ![offw k, 128 * g.val] S32x128.size (inb_x k g)).toLoadRect (harg1.unread x0) (ix2 r l)
      = x0 (ix2 R (col g l)) := by
    rw [View.readAt_eq_ld, harg1.read_unread, View.ld_apply]
    refine congrArg x0 (funext fun a => Fin.ext ?_)
    refine (ValueKit.rect_emb_unit_val _ _ _ _ a).trans ?_
    have hk := offw_eq k
    match a with
    | 0 => show offw k + r.val = R.val; omega
    | 1 => show 128 * g.val + l.val = g.val * 128 + l.val; omega
  have e3 : View.readAt (Elt Ideal) arg2.view (Rect.unit (s := S1x7168) ![0, 128 * g.val] S1x128.size (inb_n g)).toLoadRect (harg2.unread x1) (ix2 0 l)
      = x1 (ix2 0 (col g l)) := by
    rw [View.readAt_eq_ld, harg2.read_unread, View.ld_apply]
    refine congrArg x1 (funext fun a => Fin.ext ?_)
    refine (ValueKit.rect_emb_unit_val _ _ _ _ a).trans ?_
    match a with
    | 0 => rfl
    | 1 => show 128 * g.val + l.val = g.val * 128 + l.val; omega
  unfold hG
  rw [qH_at, pay8_at, e2, e3]
  simp only [e1]
  rfl

/-- Its greatest size. -/
theorem qA_hG_at (arg1 : Memref sig .tc .vmem S256x7168 .bf16) (harg1 : arg1.IsWhole) (arg2 : Memref sig .tc .vmem S1x7168 .bf16) (harg2 : arg2.IsWhole)
    (x0 : Vec Ideal S256x7168 .bf16) (x1 : Vec Ideal S1x7168 .bf16) (k : Fin k0_t1_loop.trips) (g : Fin 56) (r : Fin 32) (R : Fin 256) (hR : R.val = 32 * k.val + r.val) :
    qA (hG arg1 arg2 (harg1.unread x0) (harg2.unread x1) k g) (ix2 r 0)
      = aS (fun a b => x0 (ix2 a b)) (fun b => x1 (ix2 0 b)) R g := by
  rw [qA_at]
  simp only [hG_at arg1 harg1 arg2 harg2 x0 x1 k g r _ R hR]
  rfl

/-- The gathered scales: a lane below the number of groups done has its group's. -/
theorem accS_at (arg1 : Memref sig .tc .vmem S256x7168 .bf16) (harg1 : arg1.IsWhole) (arg2 : Memref sig .tc .vmem S1x7168 .bf16) (harg2 : arg2.IsWhole)
    (x0 : Vec Ideal S256x7168 .bf16) (x1 : Vec Ideal S1x7168 .bf16) (k : Fin k0_t1_loop.trips) (r : Fin 32) (R : Fin 256) (hR : R.val = 32 * k.val + r.val) :
    ∀ (n : ℕ) (hn : n ≤ 56) (g : Fin 56), g.val < n → accS arg1 arg2 (harg1.unread x0) (harg2.unread x1) k n hn (ix2 r ⟨g.val, by omega⟩)
      = kS (kE (aS (fun a b => x0 (ix2 a b)) (fun b => x1 (ix2 0 b)) R g)) := by
  intro n
  induction n with
  | zero => intro _ g h; omega
  | succ n ih =>
    intro hn g hg
    show qStep (BitVec.ofNat 32 n) (accS arg1 arg2 (harg1.unread x0) (harg2.unread x1) k n (Nat.le_of_succ_le hn)) (hG arg1 arg2 (harg1.unread x0) (harg2.unread x1) k ⟨n, hn⟩) (ix2 r ⟨g.val, by omega⟩) = _
    rw [qStep_at, qA_hG_at arg1 harg1 arg2 harg2 x0 x1 k ⟨n, hn⟩ r R hR]
    by_cases h : g.val = n
    · rw [if_pos (by rw [h])]
      rw [show g = ⟨n, hn⟩ from Fin.ext h]
    · rw [if_neg ?_]
      · exact ih _ g (by omega)
      · intro e
        apply h
        have := congrArg BitVec.toNat e
        simp only [BitVec.toNat_ofNat] at this
        have := g.isLt
        omega

/-! ## The first point's arrays -/

/-- Every code. -/
theorem codes_at (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (x0 : Vec Ideal S256x7168 .bf16) (x1 : Vec Ideal S1x7168 .bf16) (R : Fin 256) (n : Fin 7168) :
    View.canon (pb_k0_t1 Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) k0_t1_loop.trips).1 (ix2 R n) = codeAt (fun a b => x0 (ix2 a b)) (fun b => x1 (ix2 0 b)) R n := by
  have hR : R.val = 32 * (⟨R.val / 32, lt_of_lt_of_eq (by omega) trips_eq.symm⟩ : Fin k0_t1_loop.trips).val + (⟨R.val % 32, by omega⟩ : Fin 32).val := by dsimp only; omega
  rw [pb8_canon Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) ⟨R.val / 32, lt_of_lt_of_eq (by omega) trips_eq.symm⟩ (grp n) ⟨R.val % 32, by omega⟩ ⟨n.val % 128, by omega⟩ (ix2 R n) hR (by show n.val = 128 * (n.val / 128) + n.val % 128; omega)]
  rw [qC_at, qA_hG_at arg1 harg1 arg2 harg2 x0 x1 _ _ _ R hR, hG_at arg1 harg1 arg2 harg2 x0 x1 _ _ _ _ R hR]
  have e : col (grp n) ⟨n.val % 128, by omega⟩ = n := Fin.ext (by show n.val / 128 * 128 + n.val % 128 = n.val; omega)
  rw [e]
  rfl

/-- Every dequantised value. -/
theorem xa_at (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (x0 : Vec Ideal S256x7168 .bf16) (x1 : Vec Ideal S1x7168 .bf16) (R : Fin 256) (n : Fin 7168) :
    arrXA c i arg1 harg1 arg2 harg2 arg3 harg3 arg4 harg4 arg5 harg5 arg6 harg6 arg7 harg7 arg8 harg8 arg9 harg9 arg10 harg10 arg11 harg11 arg12 harg12 hc0 x0 x1 (ix2 R n) = codeAt (fun a b => x0 (ix2 a b)) (fun b => x1 (ix2 0 b)) R n * kS (kE (aS (fun a b => x0 (ix2 a b)) (fun b => x1 (ix2 0 b)) R (grp n))) := by
  have hR : R.val = 32 * (⟨R.val / 32, lt_of_lt_of_eq (by omega) trips_eq.symm⟩ : Fin k0_t1_loop.trips).val + (⟨R.val % 32, by omega⟩ : Fin 32).val := by dsimp only; omega
  unfold arrXA
  rw [pb10_canon Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) ⟨R.val / 32, lt_of_lt_of_eq (by omega) trips_eq.symm⟩ (grp n) ⟨R.val % 32, by omega⟩ ⟨n.val % 128, by omega⟩ (ix2 R n) hR (by show n.val = 128 * (n.val / 128) + n.val % 128; omega)]
  rw [qXA_at, qC_at, qA_hG_at arg1 harg1 arg2 harg2 x0 x1 _ _ _ R hR, hG_at arg1 harg1 arg2 harg2 x0 x1 _ _ _ _ R hR]
  have e : col (grp n) ⟨n.val % 128, by omega⟩ = n := Fin.ext (by show n.val / 128 * 128 + n.val % 128 = n.val; omega)
  rw [e]
  rfl

/-- Every scale. -/
theorem scales_at (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S7168x1024 .fp8e4m3) (harg3 : arg3.IsWhole) (arg4 : Memref sig .tc .vmem S1x1024 .f32) (harg4 : arg4.IsWhole) (arg5 : Memref sig .tc .vmem S256x1 .i32) (harg5 : arg5.IsWhole) (arg6 : Memref sig .tc .vmem S1x128 .f32) (harg6 : arg6.IsWhole) (arg7 : Memref sig .tc .vmem S256x1024 .bf16) (harg7 : arg7.IsWhole) (arg8 : Memref sig .tc .vmem S256x7168 .fp8e4m3) (harg8 : arg8.IsWhole) (arg9 : Memref sig .tc .vmem S256x56 .f32) (harg9 : arg9.IsWhole) (arg10 : Memref sig .tc .vmem S256x7168 .bf16) (harg10 : arg10.IsWhole) (arg11 : Memref sig .tc .vmem S256x128 .f32) (harg11 : arg11.IsWhole) (arg12 : Memref sig .tc .vmem S256x128 .f32) (harg12 : arg12.IsWhole) (hc0 : cond0_0 i) (x0 : Vec Ideal S256x7168 .bf16) (x1 : Vec Ideal S1x7168 .bf16) (R : Fin 256) (g : Fin 56) :
    View.canon (pb_k0_t1 Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) k0_t1_loop.trips).2.1 (ix2 R g) = kS (kE (aS (fun a b => x0 (ix2 a b)) (fun b => x1 (ix2 0 b)) R g)) := by
  have hR : R.val = 32 * (⟨R.val / 32, lt_of_lt_of_eq (by omega) trips_eq.symm⟩ : Fin k0_t1_loop.trips).val + (⟨R.val % 32, by omega⟩ : Fin 32).val := by dsimp only; omega
  rw [pb9_canon Variants.none c none i arg1 harg1 arg2 harg2 arg3 harg3 arg4 harg4 arg5 harg5 arg6 harg6 arg7 harg7 arg8 harg8 arg9 harg9 arg10 harg10 arg11 harg11 arg12 harg12 hc0 (harg1.unread x0) (harg2.unread x1) ⟨R.val / 32, lt_of_lt_of_eq (by omega) trips_eq.symm⟩ ⟨R.val % 32, by omega⟩ (ix2 R g) hR]
  refine Eq.trans ?_ (accS_at arg1 harg1 arg2 harg2 x0 x1 ⟨R.val / 32, lt_of_lt_of_eq (by omega) trips_eq.symm⟩ ⟨R.val % 32, by omega⟩ R hR 56 (by omega) g g.isLt)
  unfold vS
  generalize accS arg1 arg2 (harg1.unread x0) (harg2.unread x1) _ 56 _ = v
  show extractStridedSlice S32x56 ![0, 0] v slices_S32x128_o0_0_S32x56 (ix2 (⟨R.val % 32, by omega⟩ : Fin 32) g) = v (ix2 ⟨R.val % 32, by omega⟩ ⟨g.val, by omega⟩)
  pointwise

end Cert.KernelIdeal.Run

end
-- ==== Proof.Value.Points.lean ====
module

public import proofs.«01_k».proof.Proof.Run.Frame
public import proofs.«01_k».proof.Proof.Run.Loop
public import Idealize.ShloMosaic.Lib.Pointwise
public import proofs.«01_k».proof.Proof.Value.Cases
public import proofs.«01_k».proof.Proof.Value.Quant

@[expose] public section

set_option maxRecDepth 16384

noncomputable section

namespace Cert.KernelIdeal.Run

open Cert.KernelIdeal.Gen
open Idealize.ShloMosaic.Pointwise
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Spec (rS hS aS kE kS kI col)

variable (m : (ℓ : Loc nD τ sig) → Buf (Elt Ideal) ℓ)

/-! ## The arrays the grid reads, by place -/

/-- The input rows. -/
def gX (c : Dev nD) (r : Fin 256) (n : Fin 7168) : EReal := V m c main_v10 (ix2 r n)
/-- The norm's weights. -/
def gN (c : Dev nD) (n : Fin 7168) : EReal := V m c main_v11 (ix2 0 n)
/-- The projection's weights. -/
def gW (c : Dev nD) (k : Fin 7168) (n : Fin 9216) : EReal := V m c main_arg2 (ix2 k n)
/-- Their scales. -/
def gS (c : Dev nD) (n : Fin 9216) : EReal := V m c main_v12 (ix2 0 n)
/-- The positions. -/
def gP (c : Dev nD) (r : Fin 256) : BitVec 32 := V m c main_arg4 (ix2 r 0)
/-- The rotation's frequencies. -/
def gF (c : Dev nD) (l : Fin 128) : EReal := V m c main_v9 (ix2 0 l)

/-- Where window 0's block lies at each point. -/
theorem idx_in0 : ∀ t : Fin cfg0.N, win0_0.index t (0 : Fin 2) = 0 ∧ win0_0.index t (1 : Fin 2) = 0 :=
  (by decide +kernel : ∀ t : Fin grid0.N, _)

/-- Window 0's block, by place. -/
theorem iblk_0 (c : Dev nD) (t : Fin cfg0.N) (r : Fin 256) (n : Fin 7168) : iblk m c 0 t (ix2 r n) = gX m c r n := by
  obtain ⟨e0, e1⟩ := idx_in0 t
  show V m c main_v10 (((cfg0.win 0).blk t).view.emb (ix2 r n)) = V m c main_v10 (ix2 r n)
  refine congrArg _ (funext fun a => Fin.ext ?_)
  match a with
  | ⟨0, _⟩ => show win0_0.index t (0 : Fin 2) * 256 + 1 * r.val = r.val; omega
  | ⟨1, _⟩ => show win0_0.index t (1 : Fin 2) * 7168 + 1 * n.val = n.val; omega

/-- Where window 1's block lies at each point. -/
theorem idx_in1 : ∀ t : Fin cfg0.N, win0_1.index t (0 : Fin 2) = 0 ∧ win0_1.index t (1 : Fin 2) = 0 :=
  (by decide +kernel : ∀ t : Fin grid0.N, _)

/-- Window 1's block, by place. -/
theorem iblk_1 (c : Dev nD) (t : Fin cfg0.N) (n : Fin 7168) : iblk m c 1 t (ix2 0 n) = gN m c n := by
  obtain ⟨e0, e1⟩ := idx_in1 t
  show V m c main_v11 (((cfg0.win 1).blk t).view.emb (ix2 0 n)) = V m c main_v11 (ix2 0 n)
  refine congrArg _ (funext fun a => Fin.ext ?_)
  match a with
  | ⟨0, _⟩ => show win0_1.index t (0 : Fin 2) * 1 + 1 * 0 = 0; omega
  | ⟨1, _⟩ => show win0_1.index t (1 : Fin 2) * 7168 + 1 * n.val = n.val; omega

/-- Where window 2's block lies at each point. -/
theorem idx_in2 : ∀ t : Fin cfg0.N, win0_2.index t (0 : Fin 2) = 0 ∧ win0_2.index t (1 : Fin 2) = t.val :=
  (by decide +kernel : ∀ t : Fin grid0.N, _)

/-- Window 2's block, by place. -/
theorem iblk_2 (c : Dev nD) (t : Fin cfg0.N) (r : Fin 7168) (n : Fin 1024) : iblk m c 2 t (ix2 r n) = gW m c r ⟨1024 * t.val + n.val, by have := lt_of_lt_of_eq t.isLt N_0; omega⟩ := by
  obtain ⟨e0, e1⟩ := idx_in2 t
  show V m c main_arg2 (((cfg0.win 2).blk t).view.emb (ix2 r n)) = V m c main_arg2 (ix2 r ⟨1024 * t.val + n.val, by have := lt_of_lt_of_eq t.isLt N_0; omega⟩)
  refine congrArg _ (funext fun a => Fin.ext ?_)
  match a with
  | ⟨0, _⟩ => show win0_2.index t (0 : Fin 2) * 7168 + 1 * r.val = r.val; omega
  | ⟨1, _⟩ => show win0_2.index t (1 : Fin 2) * 1024 + 1 * n.val = 1024 * t.val + n.val; omega

/-- Where window 3's block lies at each point. -/
theorem idx_in3 : ∀ t : Fin cfg0.N, win0_3.index t (0 : Fin 2) = 0 ∧ win0_3.index t (1 : Fin 2) = t.val :=
  (by decide +kernel : ∀ t : Fin grid0.N, _)

/-- Window 3's block, by place. -/
theorem iblk_3 (c : Dev nD) (t : Fin cfg0.N) (n : Fin 1024) : iblk m c 3 t (ix2 0 n) = gS m c ⟨1024 * t.val + n.val, by have := lt_of_lt_of_eq t.isLt N_0; omega⟩ := by
  obtain ⟨e0, e1⟩ := idx_in3 t
  show V m c main_v12 (((cfg0.win 3).blk t).view.emb (ix2 0 n)) = V m c main_v12 (ix2 0 ⟨1024 * t.val + n.val, by have := lt_of_lt_of_eq t.isLt N_0; omega⟩)
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * n.val = 1024 * t.val + n.val; omega

/-- Where window 4's block lies at each point. -/
theorem idx_in4 : ∀ t : Fin cfg0.N, win0_4.index t (0 : Fin 2) = 0 ∧ win0_4.index t (1 : Fin 2) = 0 :=
  (by decide +kernel : ∀ t : Fin grid0.N, _)

/-- Window 4's block, by place. -/
theorem iblk_4 (c : Dev nD) (t : Fin cfg0.N) (r : Fin 256) : iblk m c 4 t (ix2 r 0) = gP m c r := by
  obtain ⟨e0, e1⟩ := idx_in4 t
  show V m c main_arg4 (((cfg0.win 4).blk t).view.emb (ix2 r 0)) = V m c main_arg4 (ix2 r 0)
  refine congrArg _ (funext fun a => Fin.ext ?_)
  match a with
  | ⟨0, _⟩ => show win0_4.index t (0 : Fin 2) * 256 + 1 * r.val = r.val; omega
  | ⟨1, _⟩ => show win0_4.index t (1 : Fin 2) * 1 + 1 * 0 = 0; omega

/-- Where window 5's block lies at each point. -/
theorem idx_in5 : ∀ t : Fin cfg0.N, win0_5.index t (0 : Fin 2) = 0 ∧ win0_5.index t (1 : Fin 2) = 0 :=
  (by decide +kernel : ∀ t : Fin grid0.N, _)

/-- Window 5's block, by place. -/
theorem iblk_5 (c : Dev nD) (t : Fin cfg0.N) (n : Fin 128) : iblk m c 5 t (ix2 0 n) = gF m c n := by
  obtain ⟨e0, e1⟩ := idx_in5 t
  show V m c main_v9 (((cfg0.win 5).blk t).view.emb (ix2 0 n)) = V m c main_v9 (ix2 0 n)
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * n.val = n.val; omega

/-! ## What the payloads leave -/

/-- A dequantised value. -/
def xaAt (x : Fin 256 → Fin 7168 → EReal) (nw : Fin 7168 → EReal) (r : Fin 256) (n : Fin 7168) : EReal :=
  codeAt x nw r n * kS (kE (aS x nw r (grp n)))

/-- A projection of the dequantised rows. -/
def prj (c : Dev nD) (r : Fin 256) (n : Fin 9216) : EReal := (∑ k, xaAt (gX m c) (gN m c) r k * gW m c k n) * gS m c n

/-- The rotation's cosine. -/
def csAt (c : Dev nD) (r : Fin 256) (l : Fin 128) : EReal := Ideal.cos (FloatOps.sitofp (F := Ideal) FTy.f32 (gP m c r) * gF m c l)

/-- The rotation's sine, negated in the lower half of a head. -/
def snAt (c : Dev nD) (r : Fin 256) (l : Fin 128) : EReal :=
  if l.val < 64 then 0 - Ideal.sin (FloatOps.sitofp (F := Ideal) FTy.f32 (gP m c r) * gF m c l) else Ideal.sin (FloatOps.sitofp (F := Ideal) FTy.f32 (gP m c r) * gF m c l)

/-- The projection of a tile, entry by entry. -/
theorem pay5_at (x : Vec Ideal S256x7168 .bf16) (w : Vec Ideal S7168x1024 .fp8e4m3) (ws : Vec Ideal S1x1024 .f32) (r : Fin 256) (n : Fin 1024) :
    k0_pay5 x w ws (ix2 r n) = (∑ k, x (ix2 r k) * w (ix2 k n)) * ws (ix2 0 n) := by
  pointwise [k0_pay5]

/-- A tile that does not rotate is its projection. -/
theorem pay7_at (x : Vec Ideal S256x7168 .bf16) (w : Vec Ideal S7168x1024 .fp8e4m3) (ws : Vec Ideal S1x1024 .f32) (r : Fin 256) (n : Fin 1024) :
    k0_pay7 x w ws (ix2 r n) = k0_pay5 x w ws (ix2 r n) := by
  rfl

/-- The cosine kept in scratch. -/
theorem pay3_at (p : Vec Ideal S256x1 .i32) (f : Vec Ideal S1x128 .f32) (r : Fin 256) (l : Fin 128) :
    k0_pay3 p f (ix2 r l) = Ideal.cos (FloatOps.sitofp (F := Ideal) FTy.f32 (p (ix2 r 0)) * f (ix2 0 l)) := by
  pointwise [k0_pay3, k0_pay2]

/-- Which lanes are in the lower half. -/
theorem lane_lt : ∀ l : Fin 128, IntOp.cmpi CmpIPredicate.slt (BitVec.ofNat 32 l.val) 64#32 = BitVec.ofBool (decide (l.val < 64)) := by decide +kernel

/-- The signed sine kept in scratch. -/
theorem pay4_at (p : Vec Ideal S256x1 .i32) (f : Vec Ideal S1x128 .f32) (r : Fin 256) (l : Fin 128) :
    k0_pay4 p f (ix2 r l) = if l.val < 64 then 0 - Ideal.sin (FloatOps.sitofp (F := Ideal) FTy.f32 (p (ix2 r 0)) * f (ix2 0 l))
      else Ideal.sin (FloatOps.sitofp (F := Ideal) FTy.f32 (p (ix2 r 0)) * f (ix2 0 l)) := by
  pointwise [k0_pay4, k0_pay2]
  rw [lane_lt]
  by_cases h : l.val < 64 <;> simp [h, Scalar.select]

/-! ## What every point leaves -/

/-- The codes, the scales, the dequantised rows, the cosines and the sines are left by the first point and kept. -/
structure Kept (c : Dev nD) (o : Vec Ideal S256x1024 .bf16 × Vec Ideal S256x7168 .fp8e4m3 × Vec Ideal S256x56 .f32 × Vec Ideal S256x7168 .bf16 × Vec Ideal S256x128 .f32 × Vec Ideal S256x128 .f32) : Prop where
  codes : ∀ (r : Fin 256) (n : Fin 7168), o.2.1 (ix2 r n) = codeAt (gX m c) (gN m c) r n
  scales : ∀ (r : Fin 256) (g : Fin 56), o.2.2.1 (ix2 r g) = kS (kE (aS (gX m c) (gN m c) r g))
  xa : ∀ (r : Fin 256) (n : Fin 7168), o.2.2.2.1 (ix2 r n) = xaAt (gX m c) (gN m c) r n
  cs : ∀ (r : Fin 256) (l : Fin 128), o.2.2.2.2.1 (ix2 r l) = csAt m c r l
  sn : ∀ (r : Fin 256) (l : Fin 128), o.2.2.2.2.2 (ix2 r l) = snAt m c r l

/-- The block of the rows is all of them. -/
theorem blkX (c : Dev nD) (t : Fin cfg0.N) : (fun (a : Fin 256) (b : Fin 7168) => iblk m c 0 t (ix2 a b)) = gX m c := funext fun a => funext fun b => iblk_0 m c t a b
/-- The block of the norm's weights is all of them. -/
theorem blkN (c : Dev nD) (t : Fin cfg0.N) : (fun b : Fin 7168 => iblk m c 1 t (ix2 0 b)) = gN m c := funext fun b => iblk_1 m c t b

/-- What every point leaves in the codes, the scales and the scratch is what the first one wrote. -/
theorem kept (c : Dev nD) : ∀ (n : ℕ) (hn : n < cfg0.N), Kept m c (outsAt0 m c n hn) := by
  intro n
  induction n with
  | zero =>
    intro hn
    have e := outsAt0_A m c ⟨0, hn⟩ rfl (by show 0 < 8; decide) (by show ¬0 % 9 = 8; decide)
    rw [show outsAt0 m c 0 hn = _ from e]
    constructor
    · intro r n
      dsimp only
      rw [codes_A, codes_at, blkX, blkN]
    · intro r g
      dsimp only
      rw [scales_A, scales_at, blkX, blkN]
    · intro r n
      dsimp only
      rw [xa_A, xa_at, blkX, blkN]
      rfl
    · intro r l
      dsimp only
      rw [cos_A, pay3_at, iblk_4, iblk_5]
      rfl
    · intro r l
      dsimp only
      rw [sin_A, pay4_at, iblk_4, iblk_5]
      rfl
  | succ n ih =>
    intro hn
    have h := ih (Nat.lt_of_succ_lt hn)
    have hN : n + 1 < 9 := lt_of_lt_of_eq hn N_0
    by_cases h8 : n + 1 < 8
    · have e := outsAt0_B m c ⟨n + 1, hn⟩ (by dsimp only; omega) h8 (by dsimp only; omega)
      rw [show outsAt0 m c (n + 1) hn = _ from e]
      exact ⟨h.codes, h.scales, h.xa, h.cs, h.sn⟩
    · have e := outsAt0_C m c ⟨n + 1, hn⟩ (by dsimp only; omega) h8 (by dsimp only; omega)
      rw [show outsAt0 m c (n + 1) hn = _ from e]
      exact ⟨h.codes, h.scales, h.xa, h.cs, h.sn⟩

/-- Column `n`'s partner in the whole projection. -/
def mate (n : Fin 9216) : Fin 9216 := ⟨128 * (n.val / 128) + (n.val % 128 + 64) % 128, by omega⟩

/-- What the projections' array ends with: rotated heads, then the last tile as it is. -/
def outAt (c : Dev nD) (r : Fin 256) (n : Fin 9216) : EReal :=
  if n.val < 8192 then prj m c r n * csAt m c r ⟨n.val % 128, by omega⟩ + prj m c r (mate n) * snAt m c r ⟨n.val % 128, by omega⟩
  else prj m c r n

/-- A tile of projections is the columns of the whole. -/
theorem tile_at (c : Dev nD) (t : Fin cfg0.N) (xa : Vec Ideal S256x7168 .bf16) (hx : ∀ (r : Fin 256) (n : Fin 7168), xa (ix2 r n) = xaAt (gX m c) (gN m c) r n)
    (r : Fin 256) (n : Fin 1024) (N : Fin 9216) (hN : N.val = 1024 * t.val + n.val) : k0_pay5 xa (iblk m c 2 t) (iblk m c 3 t) (ix2 r n) = prj m c r N := by
  have ht : t.val < 9 := lt_of_lt_of_eq t.isLt N_0
  rw [show N = ⟨1024 * t.val + n.val, by clear hN; have := n.isLt; omega⟩ from Fin.ext hN]
  rw [pay5_at, iblk_3]
  unfold prj
  refine congrArg (· * _) (Finset.sum_congr rfl fun k _ => ?_)
  rw [hx, iblk_2]

/-- A rotated tile is the columns of the rotated whole. -/
theorem rope_at (c : Dev nD) (t : Fin cfg0.N) (h8 : t.val < 8) (xa : Vec Ideal S256x7168 .bf16) (cs sn : Vec Ideal S256x128 .f32)
    (hx : ∀ (r : Fin 256) (n : Fin 7168), xa (ix2 r n) = xaAt (gX m c) (gN m c) r n) (hc : ∀ (r : Fin 256) (l : Fin 128), cs (ix2 r l) = csAt m c r l)
    (hs : ∀ (r : Fin 256) (l : Fin 128), sn (ix2 r l) = snAt m c r l) (r : Fin 256) (n : Fin 1024) (N : Fin 9216) (hN : N.val = 1024 * t.val + n.val) :
    ropeAt (k0_pay5 xa (iblk m c 2 t) (iblk m c 3 t)) cs sn r n = outAt m c r N := by
  unfold ropeAt outAt
  rw [if_pos (by omega), tile_at m c t xa hx r n N hN, tile_at m c t xa hx r (partner n) (mate N) (by show 128 * (N.val / 128) + (N.val % 128 + 64) % 128 = 1024 * t.val + (128 * (n.val / 128) + (n.val % 128 + 64) % 128); omega), hc, hs]
  have e : (⟨n.val % 128, by omega⟩ : Fin 128) = ⟨N.val % 128, by omega⟩ := Fin.ext (by dsimp only; omega)
  rw [e]

/-- Every point's tile. -/
theorem out_at (c : Dev nD) (t : Fin cfg0.N) (r : Fin 256) (n : Fin 1024) (N : Fin 9216) (hN : N.val = 1024 * t.val + n.val) :
    (outsAt0 m c t.val t.isLt).1 (ix2 r n) = outAt m c r N := by
  have ht : t.val < 9 := lt_of_lt_of_eq t.isLt N_0
  by_cases h0 : t.val = 0
  · have e := outsAt0_A m c t (by omega) (by omega) (by omega)
    have k := kept m c t.val t.isLt
    rw [e] at k ⊢
    dsimp only
    rw [out_A]
    refine rope_at m c t (by omega) _ _ _ (fun r n => ?_) (fun r l => ?_) (fun r l => ?_) r n N hN
    · rw [xa_at, blkX, blkN]; rfl
    · rw [pay3_at, iblk_4, iblk_5]; rfl
    · rw [pay4_at, iblk_4, iblk_5]; rfl
  · have k := kept m c (t.val - 1) (Nat.lt_of_le_of_lt (Nat.sub_le _ _) t.isLt)
    by_cases h8 : t.val < 8
    · rw [outsAt0_B m c t (by omega) h8 (by omega)]
      dsimp only
      rw [out_B]
      exact rope_at m c t h8 _ _ _ k.xa k.cs k.sn r n N hN
    · rw [outsAt0_C m c t (by omega) h8 (by omega)]
      dsimp only
      rw [out_C, pay7_at, tile_at m c t _ k.xa r n N hN]
      unfold outAt
      rw [if_neg (by omega)]

end Cert.KernelIdeal.Run

end
-- ==== Proof.Value.Arrays.lean ====
/- The kernel's arrays after the run, and its results, as functions of the arguments. -/
module

public import proofs.«01_k».proof.Proof.Run.Frame
public import proofs.«01_k».proof.Proof.Run.Loop
public import Idealize.ShloMosaic.Lib.Pointwise
public import Idealize.ShloMosaic.Lib.Pipeline.Value
public import proofs.«01_k».proof.Proof.Value.Points

@[expose] public section

set_option maxRecDepth 16384

noncomputable section

namespace Cert.KernelIdeal.Run

open Cert.KernelIdeal.Gen
open Idealize.ShloMosaic.Pointwise
open Idealize.ShloMosaic.Pipeline (Dat)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

attribute [local irreducible] Cert.Spec.kE Cert.Spec.kS Cert.Spec.kI
open Cert.Spec (rS hS aS kE kS kI col)

variable (m : (ℓ : Loc nD τ sig) → Buf (Elt Ideal) ℓ) (ρ : Dev nD → PrngReg)

/-! ## The arrays the grid's windows write -/

/-- The projections' array at the end. -/
def G6 (c : Dev nD) : Buf (Elt Ideal) ((c : Thread nD τ).loc main_v13_0) := fun i => outAt m c (i 0) (i 1)

/-- The codes' array at the end. -/
def G7 (c : Dev nD) : Buf (Elt Ideal) ((c : Thread nD τ).loc main_v13_1) := fun i => codeAt (gX m c) (gN m c) (i 0) (i 1)

/-- The scales' array at the end. -/
def G8 (c : Dev nD) : Buf (Elt Ideal) ((c : Thread nD τ).loc main_v13_2) := fun i => kS (kE (aS (gX m c) (gN m c) (i 0) (i 1)))

/-- Its contents at a place given by its coordinates. -/
theorem G8_at (c : Dev nD) (z : S256x56.Idx) (r : Fin 256) (g : Fin 56) (h0 : z 0 = r) (h1 : z 1 = g) : G8 m c z = kS (kE (aS (gX m c) (gN m c) r g)) := by
  subst h0 h1
  rfl

/-! ## Window 6 -/

/-- Where point `t`'s block lies. -/
theorem index6 : ∀ t : Fin cfg0.N, win0_6.index t (0 : Fin 2) = 0 ∧ win0_6.index t (1 : Fin 2) = t.val :=
  (by decide +kernel : ∀ t : Fin grid0.N, _)

/-- It is written back. -/
theorem flush6 : ∀ t : Fin cfg0.N, (cfg0.win 6).flush t = true := (by decide +kernel : ∀ t : Fin grid0.N, win0_6.flush t = true)

/-- What a point writes back is its block of the array's final contents. -/
theorem flushed6_eq (c : Dev nD) (t : Fin cfg0.N) : (dats m 0 c).flushed 6 t = ((cfg0.win 6).blk t).view.read (Elt Ideal) (G6 m c) := by
  show (cfg0.win 6).cut (grid0.coords t) ((dats m 0 c).after 6 t) = _
  rw [after0_6]
  obtain ⟨e0, e1⟩ := index6 t
  funext y
  have hy0 : (y 0).val < 256 := (y 0).isLt
  have hy1 : (y 1).val < 1024 := (y 1).isLt
  have hb0 : (((cfg0.win 6).blk t).view.emb y 0).val = win0_6.index t (0 : Fin 2) * 256 + 1 * (y 0).val := rfl
  have hb1 : (((cfg0.win 6).blk t).view.emb y 1).val = win0_6.index t (1 : Fin 2) * 1024 + 1 * (y 1).val := rfl
  show (outsAt0 m c t.val t.isLt).1 ((cfg0.win 6).xinj (grid0.coords t) y) = G6 m c (((cfg0.win 6).blk t).view.emb y)
  have hx : (cfg0.win 6).xinj (grid0.coords t) y = ix2 (⟨(y 0).val, hy0⟩ : Fin 256) (⟨(y 1).val, hy1⟩ : Fin 1024) := by
    funext a; apply Fin.ext
    match a with
    | ⟨0, _⟩ => rfl
    | ⟨1, _⟩ => rfl
  rw [hx]
  have q0 : ((cfg0.win 6).blk t).view.emb y 0 = (⟨(y 0).val, hy0⟩ : Fin 256) := Fin.ext (by rw [hb0, e0]; dsimp only; omega)
  unfold G6
  rw [q0]
  exact out_at m c t _ _ _ (by rw [hb1, e1]; dsimp only; omega)

/-- The indices of a block. -/
theorem mem_blk6 (t : Fin cfg0.N) (i : S256x9216.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v13_0).slice (win0_6.rect t)).set ↔ _
  rw [View.set_slice_whole, Rect.mem_set_unit]
  exact Iff.rfl

/-- The array at the end. -/
theorem final6 (c : Dev nD) : (dats m 0 c).arrAt 6 cfg0.N = G6 m c := by
  refine (dats m 0 c).arrAt_eq_of_cover 6 _ (fun t _ => flushed6_eq m c t) (fun i => ?_)
  have h0 : (i 0).val < 256 := (i 0).isLt
  have h1 : (i 1).val < 9216 := (i 1).isLt
  refine ⟨⟨(i 1).val / 1024, lt_of_lt_of_eq (by omega) N_0.symm⟩, flush6 _, ?_⟩
  rw [mem_blk6]
  obtain ⟨e0, e1⟩ := index6 ⟨(i 1).val / 1024, lt_of_lt_of_eq (by omega) N_0.symm⟩
  intro a
  match a with
  | ⟨0, _⟩ => show win0_6.index _ (0 : Fin 2) * 256 ≤ (i 0).val ∧ (i 0).val < win0_6.index _ (0 : Fin 2) * 256 + 256; rw [e0]; omega
  | ⟨1, _⟩ => show win0_6.index _ (1 : Fin 2) * 1024 ≤ (i 1).val ∧ (i 1).val < win0_6.index _ (1 : Fin 2) * 1024 + 1024; rw [e1]; dsimp only; omega

/-! ## Window 7 -/

/-- Where point `t`'s block lies. -/
theorem index7 : ∀ t : Fin cfg0.N, win0_7.index t (0 : Fin 2) = 0 ∧ win0_7.index t (1 : Fin 2) = 0 :=
  (by decide +kernel : ∀ t : Fin grid0.N, _)

/-- It is written back. -/
theorem flush7 : (cfg0.win 7).flush (⟨8, lt_of_lt_of_eq (by decide) N_0.symm⟩ : Fin cfg0.N) = true := (by decide +kernel : win0_7.flush (⟨8, lt_of_lt_of_eq (by decide) N_0.symm⟩ : Fin grid0.N) = true)

/-- What a point writes back is its block of the array's final contents. -/
theorem flushed7_eq (c : Dev nD) (t : Fin cfg0.N) : (dats m 0 c).flushed 7 t = ((cfg0.win 7).blk t).view.read (Elt Ideal) (G7 m c) := by
  show (cfg0.win 7).cut (grid0.coords t) ((dats m 0 c).after 7 t) = _
  rw [after0_7]
  obtain ⟨e0, e1⟩ := index7 t
  funext y
  have hy0 : (y 0).val < 256 := (y 0).isLt
  have hy1 : (y 1).val < 7168 := (y 1).isLt
  have hb0 : (((cfg0.win 7).blk t).view.emb y 0).val = win0_7.index t (0 : Fin 2) * 256 + 1 * (y 0).val := rfl
  have hb1 : (((cfg0.win 7).blk t).view.emb y 1).val = win0_7.index t (1 : Fin 2) * 7168 + 1 * (y 1).val := rfl
  show (outsAt0 m c t.val t.isLt).2.1 ((cfg0.win 7).xinj (grid0.coords t) y) = G7 m c (((cfg0.win 7).blk t).view.emb y)
  have hx : (cfg0.win 7).xinj (grid0.coords t) y = ix2 (⟨(y 0).val, hy0⟩ : Fin 256) (⟨(y 1).val, hy1⟩ : Fin 7168) := by
    funext a; apply Fin.ext
    match a with
    | ⟨0, _⟩ => rfl
    | ⟨1, _⟩ => rfl
  rw [hx]
  have q0 : ((cfg0.win 7).blk t).view.emb y 0 = (⟨(y 0).val, hy0⟩ : Fin 256) := Fin.ext (by rw [hb0, e0]; dsimp only; omega)
  have q1 : ((cfg0.win 7).blk t).view.emb y 1 = (⟨(y 1).val, hy1⟩ : Fin 7168) := Fin.ext (by rw [hb1, e1]; dsimp only; omega)
  unfold G7
  rw [q0, q1]
  exact (kept m c t.val t.isLt).codes _ _

/-- The indices of a block. -/
theorem mem_blk7 (t : Fin cfg0.N) (i : S256x7168.Idx) :
    i ∈ ((cfg0.win 7).blk t).view.set ↔ ∀ a : Fin 2, win0_7.index t a * S256x7168.size a ≤ (i a).val ∧ (i a).val < win0_7.index t a * S256x7168.size a + S256x7168.size a := by
  show i ∈ ((View.whole main_v13_1).slice (win0_7.rect t)).set ↔ _
  rw [View.set_slice_whole, Rect.mem_set_unit]
  exact Iff.rfl

/-- The array at the end. -/
theorem final7 (c : Dev nD) : (dats m 0 c).arrAt 7 cfg0.N = G7 m c := by
  refine (dats m 0 c).arrAt_eq_of_cover 7 _ (fun t _ => flushed7_eq m c t) (fun i => ?_)
  have h0 : (i 0).val < 256 := (i 0).isLt
  have h1 : (i 1).val < 7168 := (i 1).isLt
  refine ⟨⟨8, lt_of_lt_of_eq (by decide) N_0.symm⟩, flush7, ?_⟩
  rw [mem_blk7]
  obtain ⟨e0, e1⟩ := index7 ⟨8, lt_of_lt_of_eq (by decide) N_0.symm⟩
  intro a
  match a with
  | ⟨0, _⟩ => show win0_7.index _ (0 : Fin 2) * 256 ≤ (i 0).val ∧ (i 0).val < win0_7.index _ (0 : Fin 2) * 256 + 256; rw [e0]; omega
  | ⟨1, _⟩ => show win0_7.index _ (1 : Fin 2) * 7168 ≤ (i 1).val ∧ (i 1).val < win0_7.index _ (1 : Fin 2) * 7168 + 7168; rw [e1]; omega

/-! ## Window 8 -/

/-- Where point `t`'s block lies. -/
theorem index8 : ∀ t : Fin cfg0.N, win0_8.index t (0 : Fin 2) = 0 ∧ win0_8.index t (1 : Fin 2) = 0 :=
  (by decide +kernel : ∀ t : Fin grid0.N, _)

/-- It is written back. -/
theorem flush8 : (cfg0.win 8).flush (⟨8, lt_of_lt_of_eq (by decide) N_0.symm⟩ : Fin cfg0.N) = true := (by decide +kernel : win0_8.flush (⟨8, lt_of_lt_of_eq (by decide) N_0.symm⟩ : Fin grid0.N) = true)

/-- What a point writes back is its block of the array's final contents. -/
theorem flushed8_eq (c : Dev nD) (t : Fin cfg0.N) : (dats m 0 c).flushed 8 t = ((cfg0.win 8).blk t).view.read (Elt Ideal) (G8 m c) := by
  show (cfg0.win 8).cut (grid0.coords t) ((dats m 0 c).after 8 t) = _
  rw [after0_8]
  obtain ⟨e0, e1⟩ := index8 t
  funext y
  have hy0 : (y 0).val < 256 := (y 0).isLt
  have hy1 : (y 1).val < 56 := (y 1).isLt
  have hb0 : (((cfg0.win 8).blk t).view.emb y 0).val = win0_8.index t (0 : Fin 2) * 256 + 1 * (y 0).val := rfl
  have hb1 : (((cfg0.win 8).blk t).view.emb y 1).val = win0_8.index t (1 : Fin 2) * 56 + 1 * (y 1).val := rfl
  show (outsAt0 m c t.val t.isLt).2.2.1 ((cfg0.win 8).xinj (grid0.coords t) y) = G8 m c (((cfg0.win 8).blk t).view.emb y)
  have hx : (cfg0.win 8).xinj (grid0.coords t) y = ix2 (⟨(y 0).val, hy0⟩ : Fin 256) (⟨(y 1).val, hy1⟩ : Fin 56) := by
    funext a; apply Fin.ext
    match a with
    | ⟨0, _⟩ => rfl
    | ⟨1, _⟩ => rfl
  rw [hx]
  have q0 : ((cfg0.win 8).blk t).view.emb y 0 = (⟨(y 0).val, hy0⟩ : Fin 256) := Fin.ext (by rw [hb0, e0]; dsimp only; omega)
  have q1 : ((cfg0.win 8).blk t).view.emb y 1 = (⟨(y 1).val, hy1⟩ : Fin 56) := Fin.ext (by rw [hb1, e1]; dsimp only; omega)
  refine ((kept m c t.val t.isLt).scales ⟨(y 0).val, hy0⟩ ⟨(y 1).val, hy1⟩).trans ?_
  generalize ((cfg0.win 8).blk t).view.emb y = z at q0 q1 ⊢
  exact (G8_at m c z _ _ q0 q1).symm

/-- The indices of a block. -/
theorem mem_blk8 (t : Fin cfg0.N) (i : S256x56.Idx) :
    i ∈ ((cfg0.win 8).blk t).view.set ↔ ∀ a : Fin 2, win0_8.index t a * S256x56.size a ≤ (i a).val ∧ (i a).val < win0_8.index t a * S256x56.size a + S256x56.size a := by
  show i ∈ ((View.whole main_v13_2).slice (win0_8.rect t)).set ↔ _
  rw [View.set_slice_whole, Rect.mem_set_unit]
  exact Iff.rfl

/-- The array at the end. -/
theorem final8 (c : Dev nD) : (dats m 0 c).arrAt 8 cfg0.N = G8 m c := by
  refine (dats m 0 c).arrAt_eq_of_cover 8 _ (fun t _ => flushed8_eq m c t) (fun i => ?_)
  have h0 : (i 0).val < 256 := (i 0).isLt
  have h1 : (i 1).val < 56 := (i 1).isLt
  refine ⟨⟨8, lt_of_lt_of_eq (by decide) N_0.symm⟩, flush8, ?_⟩
  rw [mem_blk8]
  obtain ⟨e0, e1⟩ := index8 ⟨8, lt_of_lt_of_eq (by decide) N_0.symm⟩
  intro a
  match a with
  | ⟨0, _⟩ => show win0_8.index _ (0 : Fin 2) * 256 ≤ (i 0).val ∧ (i 0).val < win0_8.index _ (0 : Fin 2) * 256 + 256; rw [e0]; omega
  | ⟨1, _⟩ => show win0_8.index _ (1 : Fin 2) * 56 ≤ (i 1).val ∧ (i 1).val < win0_8.index _ (1 : Fin 2) * 56 + 56; rw [e1]; omega

/-! ## What the grid reads, from the arguments -/

/-- The rows. -/
theorem gX_eq (c : Dev nD) (r : Fin 256) (n : Fin 7168) : gX m c r n = m ((c : Thread nD τ).loc main_arg0) (ix3 r 0 n) := by
  unfold gX
  show StableHlo.after hostOps0 (fun b => m (c, b)) (Proc.tc.devRef main_v10) (ix2 r n) = _
  entry_read
  pointwise

/-- The norm's weights. -/
theorem gN_eq (c : Dev nD) (n : Fin 7168) : gN m c n = m ((c : Thread nD τ).loc main_arg1) (ix1 n) := by
  unfold gN
  show StableHlo.after hostOps0 (fun b => m (c, b)) (Proc.tc.devRef main_v11) (ix2 0 n) = _
  entry_read
  pointwise

/-- The columns' scales. -/
theorem gS_eq (c : Dev nD) (n : Fin 9216) : gS m c n = m ((c : Thread nD τ).loc main_arg3) (ix1 n) := by
  unfold gS
  show StableHlo.after hostOps0 (fun b => m (c, b)) (Proc.tc.devRef main_v12) (ix2 0 n) = _
  entry_read
  pointwise

/-- The weights. -/
theorem gW_eq (c : Dev nD) (k : Fin 7168) (n : Fin 9216) : gW m c k n = m ((c : Thread nD τ).loc main_arg2) (ix2 k n) := by
  unfold gW
  rw [V_main_arg2]

/-- The positions. -/
theorem gP_eq (c : Dev nD) (r : Fin 256) : gP m c r = m ((c : Thread nD τ).loc main_arg4) (ix2 r 0) := by
  unfold gP
  rw [V_main_arg4]

/-- The frequencies: the 64 of them, twice. -/
theorem gF_eq (c : Dev nD) (l : Fin 128) : gF m c l = Cert.Spec.freq (l.val % 64) := by
  unfold gF
  show StableHlo.after hostOps0 (fun b => m (c, b)) (Proc.tc.devRef main_v9) (ix2 0 l) = _
  entry_read
  pointwise
  unfold Cert.Spec.freq
  have hl := l.isLt
  split
  · rw [Nat.mod_eq_of_lt (by assumption)]
  · rw [show l.val % 64 = l.val - 64 by omega]

/-! ## The results -/

/-- The queries. -/
theorem main_v15_at (c : Dev nD) (r : Fin 256) (g : Fin 56) (l : Fin 128) : Pipeline.afterTail₀ cfgs (dats m) 0 (V0 m) [hostOps1] c main_v15 (ix4 r 0 g l) = outAt m c r ⟨g.val * 128 + l.val, by have := g.isLt; have := l.isLt; omega⟩ := by
  show StableHlo.after hostOps1 (Pipeline.withArrays (cfgs 0).spec c (V0 m c) fun w => (dats m 0 c).arrAt w (cfgs 0).N) (Proc.tc.devRef main_v15) (ix4 r 0 g l) = _
  entry_read
  rw [show Pipeline.withArrays (cfgs 0).spec c (V0 m c) (fun w => (dats m 0 c).arrAt w (cfgs 0).N) (Proc.tc.devRef main_v13_0) = G6 m c from
    (Pipeline.withArrays_arr spec0 (by decide) c (V0 m c) (fun w => (dats m 0 c).arrAt w cfg0.N) 6).trans (final6 m c)]
  pointwise
  rfl

/-- The keys. -/
theorem main_v17_at (c : Dev nD) (r : Fin 256) (g : Fin 8) (l : Fin 128) : Pipeline.afterTail₀ cfgs (dats m) 0 (V0 m) [hostOps1] c main_v17 (ix4 r 0 g l) = outAt m c r ⟨7168 + (g.val * 128 + l.val), by have := g.isLt; have := l.isLt; omega⟩ := by
  show StableHlo.after hostOps1 (Pipeline.withArrays (cfgs 0).spec c (V0 m c) fun w => (dats m 0 c).arrAt w (cfgs 0).N) (Proc.tc.devRef main_v17) (ix4 r 0 g l) = _
  entry_read
  rw [show Pipeline.withArrays (cfgs 0).spec c (V0 m c) (fun w => (dats m 0 c).arrAt w (cfgs 0).N) (Proc.tc.devRef main_v13_0) = G6 m c from
    (Pipeline.withArrays_arr spec0 (by decide) c (V0 m c) (fun w => (dats m 0 c).arrAt w cfg0.N) 6).trans (final6 m c)]
  pointwise
  rfl

/-- The values. -/
theorem main_v19_at (c : Dev nD) (r : Fin 256) (g : Fin 8) (l : Fin 128) : Pipeline.afterTail₀ cfgs (dats m) 0 (V0 m) [hostOps1] c main_v19 (ix4 r 0 g l) = outAt m c r ⟨8192 + (g.val * 128 + l.val), by have := g.isLt; have := l.isLt; omega⟩ := by
  show StableHlo.after hostOps1 (Pipeline.withArrays (cfgs 0).spec c (V0 m c) fun w => (dats m 0 c).arrAt w (cfgs 0).N) (Proc.tc.devRef main_v19) (ix4 r 0 g l) = _
  entry_read
  rw [show Pipeline.withArrays (cfgs 0).spec c (V0 m c) (fun w => (dats m 0 c).arrAt w (cfgs 0).N) (Proc.tc.devRef main_v13_0) = G6 m c from
    (Pipeline.withArrays_arr spec0 (by decide) c (V0 m c) (fun w => (dats m 0 c).arrAt w cfg0.N) 6).trans (final6 m c)]
  pointwise
  rfl

/-- The codes. -/
theorem main_v20_at (c : Dev nD) (r : Fin 256) (n : Fin 7168) : Pipeline.afterTail₀ cfgs (dats m) 0 (V0 m) [hostOps1] c main_v20 (ix3 r 0 n) = codeAt (gX m c) (gN m c) r n := by
  show StableHlo.after hostOps1 (Pipeline.withArrays (cfgs 0).spec c (V0 m c) fun w => (dats m 0 c).arrAt w (cfgs 0).N) (Proc.tc.devRef main_v20) (ix3 r 0 n) = _
  entry_read
  rw [show Pipeline.withArrays (cfgs 0).spec c (V0 m c) (fun w => (dats m 0 c).arrAt w (cfgs 0).N) (Proc.tc.devRef main_v13_1) = G7 m c from
    (Pipeline.withArrays_arr spec0 (by decide) c (V0 m c) (fun w => (dats m 0 c).arrAt w cfg0.N) 7).trans (final7 m c)]
  pointwise
  rfl

/-- The scales. -/
theorem main_v21_at (c : Dev nD) (r : Fin 256) (g : Fin 56) : Pipeline.afterTail₀ cfgs (dats m) 0 (V0 m) [hostOps1] c main_v21 (ix3 r 0 g) = kS (kE (aS (gX m c) (gN m c) r g)) := by
  show StableHlo.after hostOps1 (Pipeline.withArrays (cfgs 0).spec c (V0 m c) fun w => (dats m 0 c).arrAt w (cfgs 0).N) (Proc.tc.devRef main_v21) (ix3 r 0 g) = _
  entry_read
  rw [show Pipeline.withArrays (cfgs 0).spec c (V0 m c) (fun w => (dats m 0 c).arrAt w (cfgs 0).N) (Proc.tc.devRef main_v13_2) = G8 m c from
    (Pipeline.withArrays_arr spec0 (by decide) c (V0 m c) (fun w => (dats m 0 c).arrAt w cfg0.N) 8).trans (final8 m c)]
  pointwise
  rfl

/-- The run, its results named and its arguments kept. -/
theorem run_results : θ_run defs (onTc (τ := τ) (main (F := Ideal))) ⟨m, fun _ => 0, ρ⟩ fun r => ∀ c : Dev nD,
      r.2.mem ((c.tc : Thread nD τ).loc main_v15) = Pipeline.afterTail₀ cfgs (dats m) 0 (V0 m) [hostOps1] c main_v15
      ∧ r.2.mem ((c.tc : Thread nD τ).loc main_v17) = Pipeline.afterTail₀ cfgs (dats m) 0 (V0 m) [hostOps1] c main_v17
      ∧ r.2.mem ((c.tc : Thread nD τ).loc main_v19) = Pipeline.afterTail₀ cfgs (dats m) 0 (V0 m) [hostOps1] c main_v19
      ∧ r.2.mem ((c.tc : Thread nD τ).loc main_v20) = Pipeline.afterTail₀ cfgs (dats m) 0 (V0 m) [hostOps1] c main_v20
      ∧ r.2.mem ((c.tc : Thread nD τ).loc main_v21) = Pipeline.afterTail₀ cfgs (dats m) 0 (V0 m) [hostOps1] c main_v21 :=
  (θ_run defs _ _).mono (fun r h c => ⟨(h c).2 main_v15 (Pipeline.mem_restRefs_of main_v15 (by decide) (by decide)),
      (h c).2 main_v17 (Pipeline.mem_restRefs_of main_v17 (by decide) (by decide)),
      (h c).2 main_v19 (Pipeline.mem_restRefs_of main_v19 (by decide) (by decide)),
      (h c).2 main_v20 (Pipeline.mem_restRefs_of main_v20 (by decide) (by decide)),
      (h c).2 main_v21 (Pipeline.mem_restRefs_of main_v21 (by decide) (by decide))⟩)
    (run_main m ρ)

end Cert.KernelIdeal.Run

end
-- ==== Proof.Value.RefPay.lean ====
/- The reference's body, value by value, at a place. -/
module

public import proofs.«01_k».proof.Proof.Gen.ReferenceIdeal.Frame
public import Idealize.ShloMosaic.Lib.Pointwise
public import proofs.«01_k».proof.Proof.Value.Spec

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic Idealize.ShloMosaic.Pointwise
open Idealize.SL.Sem
open Cert.Spec (rS hS aS rE col)

/-- The group of a column. -/
def grp (n : Fin 7168) : Fin 56 := ⟨n.val / 128, by omega⟩

/-- The code of a place. -/
def codeR (x : Fin 256 → Fin 7168 → EReal) (nw : Fin 7168 → EReal) (r : Fin 256) (n : Fin 7168) : EReal :=
  min (Ideal.ofBits FTy.f32 1138753536#32) (max (Ideal.ofBits FTy.f32 3286237184#32) (hS x nw r n * Ideal.exp2 (0 - rE (aS x nw r (grp n)))))

/-- A projection. -/
def prjR (x : Fin 256 → Fin 7168 → EReal) (nw : Fin 7168 → EReal) (w : Fin 7168 → Fin 9216 → EReal) (s : Fin 9216 → EReal) (r : Fin 256) (n : Fin 9216) : EReal :=
  (∑ k, codeR x nw r k * Ideal.exp2 (rE (aS x nw r (grp k))) * w k n) * s n

/-- A rotated head's lane, from the head's lanes and the cosines and sines. -/
def rotR (t : Fin 128 → EReal) (cs sn : Fin 64 → EReal) (l : Fin 128) : EReal :=
  if h : l.val < 64 then t l * cs ⟨l.val, h⟩ - t ⟨64 + l.val, by omega⟩ * sn ⟨l.val, h⟩
  else t l * cs ⟨l.val - 64, by omega⟩ + t ⟨l.val - 64, by omega⟩ * sn ⟨l.val - 64, by omega⟩

section
variable (P0 : Vec Ideal S256x7168 .bf16) (P1 : Vec Ideal S1x7168 .bf16) (P2 : Vec Ideal S7168x9216 .fp8e4m3) (P3 : Vec Ideal S1x9216 .f32)
  (P4 : Vec Ideal S256x1 .i32) (P5 : Vec Ideal S1x64 .f32)

/-- The rows. -/
abbrev xF : Fin 256 → Fin 7168 → EReal := fun a b => P0 (ix2 a b)
/-- The norm's weights. -/
abbrev nF : Fin 7168 → EReal := fun b => P1 (ix2 0 b)
/-- The projection's weights. -/
abbrev wF : Fin 7168 → Fin 9216 → EReal := fun a b => P2 (ix2 a b)
/-- Their scales. -/
abbrev sF : Fin 9216 → EReal := fun b => P3 (ix2 0 b)

/-- A normed entry, in its group. -/
theorem pay4_at (r : Fin 256) (g : Fin 56) (l : Fin 128) : k0_pay4 P0 P1 (ix3 r g l) = hS (xF P0) (nF P1) r (col g l) := by
  pointwise [k0_pay4]
  rfl

/-- The greatest size in a group. -/
theorem max_at (r : Fin 256) (g : Fin 56) :
    multiReduction (F := Ideal) .maximumf [2] S256x56 (absf (k0_pay4 P0 P1)) 0xFF800000#32 reduces_S256x56x128_S256x56 (.inl rfl) rfl (ix2 r g) = aS (xF P0) (nF P1) r g := by
  have h := pay4_at P0 P1 r g
  generalize k0_pay4 P0 P1 = v at h ⊢
  pointwise
  simp only [h]
  rfl

/-- The exponent of a size above the smallest normal number. -/
def expo (u : FVec Ideal S256x56 .f32) : FVec Ideal S256x56 .f32 :=
  addf (floor (divf (log (mulf u (broadcast S256x56 (Scalar.ofBits (F := Ideal) .f32 0x3B124925#32)))) (log (broadcast S256x56 (Scalar.ofBits (F := Ideal) .f32 0x40000000#32))))) (broadcast S256x56 (Scalar.ofBits (F := Ideal) .f32 0x3F800000#32))

/-- Zero below it. -/
def flush (u w : FVec Ideal S256x56 .f32) : FVec Ideal S256x56 .f32 :=
  select (cmpf .olt (mulf u (broadcast S256x56 (Scalar.ofBits (F := Ideal) .f32 0x3B124925#32))) (broadcast S256x56 (Scalar.ofBits (F := Ideal) .f32 0x00800000#32))) (broadcast S256x56 (Scalar.ofBits (F := Ideal) .f32 0x00000000#32)) w

/-- And at zero. -/
def zeroed (u w : FVec Ideal S256x56 .f32) : FVec Ideal S256x56 .f32 :=
  select (cmpf .oeq u (broadcast S256x56 (Scalar.ofBits (F := Ideal) .f32 0x00000000#32))) (broadcast S256x56 (Scalar.ofBits (F := Ideal) .f32 0x00000000#32)) w

/-- The floor of the logarithm to base two, and one. -/
theorem expo_at (u : FVec Ideal S256x56 .f32) (r : Fin 256) (g : Fin 56) :
    expo u (ix2 r g) = Ideal.liftRound Int.floor (Ideal.div (Ideal.log (u (ix2 r g) * Ideal.ofBits FTy.f32 0x3B124925#32)) (Ideal.log (Ideal.ofBits FTy.f32 0x40000000#32))) + Ideal.ofBits FTy.f32 0x3F800000#32 := by
  pointwise [expo]

/-- The exponent, zero below the normal numbers. -/
theorem flush_at (u w : FVec Ideal S256x56 .f32) (r : Fin 256) (g : Fin 56) :
    flush u w (ix2 r g) = Scalar.select (Ideal.cmp CmpFPredicate.olt (u (ix2 r g) * Ideal.ofBits FTy.f32 0x3B124925#32) (Ideal.ofBits FTy.f32 0x00800000#32)) (Ideal.ofBits FTy.f32 0x00000000#32) (w (ix2 r g)) := rfl

/-- The exponent, zero for a group of zeros. -/
theorem zeroed_at (u w : FVec Ideal S256x56 .f32) (r : Fin 256) (g : Fin 56) :
    zeroed u w (ix2 r g) = Scalar.select (Ideal.cmp CmpFPredicate.oeq (u (ix2 r g)) (Ideal.ofBits FTy.f32 0x00000000#32)) (Ideal.ofBits FTy.f32 0x00000000#32) (w (ix2 r g)) := rfl

/-- The exponents, from the greatest sizes. -/
theorem pay5_eq (u : FVec Ideal S256x56 .f32)
    (hu : multiReduction (F := Ideal) .maximumf [2] S256x56 (absf (k0_pay4 P0 P1)) 0xFF800000#32 reduces_S256x56x128_S256x56 (.inl rfl) rfl = u) :
    k0_pay5 P0 P1 = zeroed u (flush u (expo u)) := by
  subst hu
  unfold k0_pay5 zeroed flush expo
  rfl

/-- A group's exponent. -/
theorem pay5_at (r : Fin 256) (g : Fin 56) : k0_pay5 P0 P1 (ix2 r g) = rE (aS (xF P0) (nF P1) r g) := by
  rw [← max_at, pay5_eq P0 P1 _ rfl, zeroed_at, flush_at, expo_at]
  generalize multiReduction (F := Ideal) .maximumf [2] S256x56 (absf (k0_pay4 P0 P1)) 0xFF800000#32 reduces_S256x56x128_S256x56 (.inl rfl) rfl (ix2 r g) = u
  unfold rE
  rfl

/-- A power of two, entry by entry. -/
theorem exp2_at (v : FVec Ideal S256x56 .f32) (r : Fin 256) (g : Fin 56) (y : EReal) (h : v (ix2 r g) = y) : exp2 v (ix2 r g) = Ideal.exp2 y := by
  rw [← h]
  rfl

/-- The power of two of the negative, repeated along the group. -/
theorem exp2_neg_at (v : FVec Ideal S256x56 .f32) (r : Fin 256) (g : Fin 56) (l : Fin 128) (y : EReal) (h : v (ix2 r g) = y) :
    broadcastTo S256x56x128 (shapeCast S256x56x1 (exp2 (subf (broadcast S256x56 (Scalar.ofBits (F := Ideal) .f32 0x00000000#32)) v)) shapeCasts_S256x56_S256x56x1) broadcasts_S256x56x1_S256x56x128 (ix3 r g l)
      = Ideal.exp2 (0 - y) := by
  rw [← h]
  pointwise
  rfl

/-- The scale. -/
theorem pay6_at (r : Fin 256) (g : Fin 56) : k0_pay6 P0 P1 (ix2 r g) = Ideal.exp2 (rE (aS (xF P0) (nF P1) r g)) := by
  unfold k0_pay6
  exact exp2_at _ r g _ (pay5_at P0 P1 r g)

/-- The reciprocal of the scale. -/
theorem pay7_at (r : Fin 256) (g : Fin 56) (l : Fin 128) : k0_pay7 P0 P1 (ix3 r g l) = Ideal.exp2 (0 - rE (aS (xF P0) (nF P1) r g)) := by
  unfold k0_pay7
  exact exp2_neg_at _ r g l _ (pay5_at P0 P1 r g)

/-- The code before it is stored. -/
theorem pay8_at (r : Fin 256) (n : Fin 7168) :
    k0_pay8 (k0_pay4 P0 P1) (k0_pay7 P0 P1) (ix3 r ⟨n.val / 128, by omega⟩ ⟨n.val % 128, by omega⟩) = codeR (xF P0) (nF P1) r n := by
  have h4 := pay4_at P0 P1 r ⟨n.val / 128, by omega⟩ ⟨n.val % 128, by omega⟩
  have h7 := pay7_at P0 P1 r ⟨n.val / 128, by omega⟩ ⟨n.val % 128, by omega⟩
  have e : col ⟨n.val / 128, by omega⟩ ⟨n.val % 128, by omega⟩ = n := Fin.ext (by show n.val / 128 * 128 + n.val % 128 = n.val; omega)
  rw [e] at h4
  unfold codeR
  rw [show Ideal.exp2 (0 - rE (aS (xF P0) (nF P1) r (grp n))) = _ from h7.symm, ← h4]
  generalize k0_pay4 P0 P1 = a
  generalize k0_pay7 P0 P1 = b
  pointwise [k0_pay8]

/-- The code as stored. -/
theorem pay9_at (r : Fin 256) (n : Fin 7168) : k0_pay9 (k0_pay4 P0 P1) (k0_pay7 P0 P1) (ix3 r 0 n) = codeR (xF P0) (nF P1) r n := by
  rw [← pay8_at]
  generalize k0_pay4 P0 P1 = a
  generalize k0_pay7 P0 P1 = b
  unfold k0_pay9
  generalize k0_pay8 a b = v
  pointwise

/-- The scale as stored. -/
theorem pay10_at (r : Fin 256) (g : Fin 56) : k0_pay10 (k0_pay6 P0 P1) (ix3 r 0 g) = Ideal.exp2 (rE (aS (xF P0) (nF P1) r g)) := by
  rw [← pay6_at]
  generalize k0_pay6 P0 P1 = v
  pointwise [k0_pay10]

/-- The projection, entry by entry. -/
theorem pay11_at (r : Fin 256) (n : Fin 9216) :
    k0_pay11 (k0_pay4 P0 P1) (k0_pay6 P0 P1) (k0_pay7 P0 P1) P2 P3 (ix2 r n) = prjR (xF P0) (nF P1) (wF P2) (sF P3) r n := by
  have h8 := pay8_at P0 P1 r
  have h6 := fun k : Fin 7168 => pay6_at P0 P1 r ⟨k.val / 128, by omega⟩
  unfold prjR
  have e : ∀ k : Fin 7168, codeR (xF P0) (nF P1) r k * Ideal.exp2 (rE (aS (xF P0) (nF P1) r (grp k))) * P2 (ix2 k n)
      = k0_pay8 (k0_pay4 P0 P1) (k0_pay7 P0 P1) (ix3 r ⟨k.val / 128, by omega⟩ ⟨k.val % 128, by omega⟩) * k0_pay6 P0 P1 (ix2 r ⟨k.val / 128, by omega⟩) * P2 (ix2 k n) := by
    intro k
    rw [h8, h6]
    rfl
  simp only [wF]
  rw [Finset.sum_congr rfl fun k _ => e k]
  clear h8 h6 e
  unfold k0_pay11
  generalize k0_pay8 (k0_pay4 P0 P1) (k0_pay7 P0 P1) = a
  generalize k0_pay6 P0 P1 = b
  pointwise

end

/-- The queries' part of the projection. -/
theorem pay12_at (a : FVec Ideal S256x56x128 .f32) (b : FVec Ideal S256x56 .f32) (d : FVec Ideal S256x56x128 .f32) (P2 : Vec Ideal S7168x9216 .fp8e4m3) (P3 : Vec Ideal S1x9216 .f32) (r : Fin 256) (g : Fin 56) (l : Fin 128) :
    k0_pay12 a b d P2 P3 (ix3 r g l) = k0_pay11 a b d P2 P3 (ix2 r ⟨g.val * 128 + l.val, by have := g.isLt; have := l.isLt; omega⟩) := by
  unfold k0_pay12
  generalize k0_pay11 a b d P2 P3 = v
  pointwise

/-- The keys' part of the projection. -/
theorem pay13_at (a : FVec Ideal S256x56x128 .f32) (b : FVec Ideal S256x56 .f32) (d : FVec Ideal S256x56x128 .f32) (P2 : Vec Ideal S7168x9216 .fp8e4m3) (P3 : Vec Ideal S1x9216 .f32) (r : Fin 256) (g : Fin 8) (l : Fin 128) :
    k0_pay13 a b d P2 P3 (ix3 r g l) = k0_pay11 a b d P2 P3 (ix2 r ⟨7168 + (g.val * 128 + l.val), by have := g.isLt; have := l.isLt; omega⟩) := by
  unfold k0_pay13
  generalize k0_pay11 a b d P2 P3 = v
  pointwise

/-- The values' part of the projection. -/
theorem pay14_at (a : FVec Ideal S256x56x128 .f32) (b : FVec Ideal S256x56 .f32) (d : FVec Ideal S256x56x128 .f32) (P2 : Vec Ideal S7168x9216 .fp8e4m3) (P3 : Vec Ideal S1x9216 .f32) (r : Fin 256) (g : Fin 8) (l : Fin 128) :
    k0_pay14 a b d P2 P3 (ix3 r g l) = k0_pay11 a b d P2 P3 (ix2 r ⟨8192 + (g.val * 128 + l.val), by have := g.isLt; have := l.isLt; omega⟩) := by
  unfold k0_pay14
  generalize k0_pay11 a b d P2 P3 = v
  pointwise

/-- The cosine. -/
theorem pay16_at (P4 : Vec Ideal S256x1 .i32) (P5 : Vec Ideal S1x64 .f32) (r : Fin 256) (l : Fin 64) :
    k0_pay16 P4 P5 (ix3 r 0 l) = Ideal.cos (FloatOps.sitofp (F := Ideal) .f32 (P4 (ix2 r 0)) * P5 (ix2 0 l)) := by
  pointwise [k0_pay16, k0_pay15]

/-- The sine. -/
theorem pay17_at (P4 : Vec Ideal S256x1 .i32) (P5 : Vec Ideal S1x64 .f32) (r : Fin 256) (l : Fin 64) :
    k0_pay17 P4 P5 (ix3 r 0 l) = Ideal.sin (FloatOps.sitofp (F := Ideal) .f32 (P4 (ix2 r 0)) * P5 (ix2 0 l)) := by
  pointwise [k0_pay17, k0_pay15]

/-- A half of the queries. -/
theorem pay18_at (a : FVec Ideal S256x56x128 .f32) (b : FVec Ideal S256x56 .f32) (d : FVec Ideal S256x56x128 .f32) (P2 : Vec Ideal S7168x9216 .fp8e4m3) (P3 : Vec Ideal S1x9216 .f32) (r : Fin 256) (g : Fin 56) (l : Fin 64) :
    k0_pay18 a b d P2 P3 (ix3 r g l) = k0_pay12 a b d P2 P3 (ix3 r g ⟨l.val, by omega⟩) := by
  unfold k0_pay18
  generalize k0_pay12 a b d P2 P3 = v
  pointwise

/-- The rotated queries as stored. -/
theorem pay1_at (v : FVec Ideal S256x56x128 .f32) (cs sn : FVec Ideal S256x1x64 .f32) (d : FVec Ideal S256x56x64 .f32)
    (hd : ∀ (r : Fin 256) (g : Fin 56) (l : Fin 64), d (ix3 r g l) = v (ix3 r g ⟨l.val, by omega⟩)) (r : Fin 256) (g : Fin 56) (l : Fin 128) :
    k0_pay1 v cs sn d (ix4 r 0 g l) = rotR (fun l => v (ix3 r g l)) (fun l => cs (ix3 r 0 l)) (fun l => sn (ix3 r 0 l)) l := by
  unfold rotR
  pointwise [k0_pay1]
  have hl := l.isLt
  split
  · rw [hd]
  · have e : (⟨64 + (l.val - 64), by omega⟩ : Fin 128) = l := Fin.ext (by dsimp only; omega)
    rw [hd, e]

/-- The rotated keys as stored. -/
theorem pay2_at (v : FVec Ideal S256x8x128 .f32) (cs sn : FVec Ideal S256x1x64 .f32) (r : Fin 256) (g : Fin 8) (l : Fin 128) :
    k0_pay2 v cs sn (ix4 r 0 g l) = rotR (fun l => v (ix3 r g l)) (fun l => cs (ix3 r 0 l)) (fun l => sn (ix3 r 0 l)) l := by
  unfold rotR
  pointwise [k0_pay2]
  have hl := l.isLt
  split
  · rfl
  · have e : (⟨64 + (l.val - 64), by omega⟩ : Fin 128) = l := Fin.ext (by dsimp only; omega)
    rw [e]

/-- The values as stored. -/
theorem pay3_at (v : FVec Ideal S256x8x128 .f32) (r : Fin 256) (g : Fin 8) (l : Fin 128) : k0_pay3 v (ix4 r 0 g l) = v (ix3 r g l) := by
  pointwise [k0_pay3]

end Cert.ReferenceIdeal.Run

end
-- ==== Proof.Value.Ref.lean ====
/- The reference's body, its results and its run. -/
module

public import proofs.«01_k».proof.Proof.Gen.ReferenceIdeal.Frame
public import Idealize.ShloMosaic.Lib.Pointwise
public import Idealize.ShloMosaic.Lib.Pipeline.Value
public import Idealize.ShloMosaic.Lib.Pipeline.ValueKit
public import proofs.«01_k».proof.Proof.Value.RefPay

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic Idealize.ShloMosaic.Pointwise
open Idealize.SL.Sem
open Idealize.ShloMosaic.Pipeline (Dat)
open Cert.Spec (rS hS aS rE col)

attribute [local irreducible] Cert.Spec.rE codeR prjR

/-! ## The body's stores, at a place -/

section
variable (x0 : Vec Ideal S256x7168 .bf16) (x1 : Vec Ideal S1x7168 .bf16) (x2 : Vec Ideal S7168x9216 .fp8e4m3) (x3 : Vec Ideal S1x9216 .f32) (x4 : Vec Ideal S256x1 .i32) (x5 : Vec Ideal S1x64 .f32)

/-- The rotation's cosines. -/
def csR (p : BitVec 32) (f : Fin 64 → EReal) (l : Fin 64) : EReal := Ideal.cos (FloatOps.sitofp (F := Ideal) .f32 p * f l)
/-- The rotation's sines. -/
def snR (p : BitVec 32) (f : Fin 64 → EReal) (l : Fin 64) : EReal := Ideal.sin (FloatOps.sitofp (F := Ideal) .f32 p * f l)

/-- The queries that the body stores, entry by entry. -/
theorem out6_at (r : Fin 256) (g : Fin 56) (l : Fin 128) :
    out0_6 x0 x1 x2 x3 x4 x5 (ix4 r 0 g l) = rotR (fun l => prjR (xF x0) (nF x1) (wF x2) (sF x3) r ⟨g.val * 128 + l.val, by have := g.isLt; have := l.isLt; omega⟩)
      (csR (x4 (ix2 r 0)) fun l => x5 (ix2 0 l)) (snR (x4 (ix2 r 0)) fun l => x5 (ix2 0 l)) l := by
  unfold out0_6 k0_pay23 k0_pay22 k0_pay21 k0_pay20 k0_pay19
  simp (disch := decide) only [View.ld_unit_lit', View.canon_cons_unit_lit']
  rw [pay1_at _ _ _ _ (fun r g l => pay18_at _ _ _ _ _ r g l)]
  simp only [pay12_at, pay11_at, pay16_at, pay17_at]
  rfl

/-- The keys that the body stores, entry by entry. -/
theorem out7_at (r : Fin 256) (g : Fin 8) (l : Fin 128) :
    out0_7 x0 x1 x2 x3 x4 x5 (ix4 r 0 g l) = rotR (fun l => prjR (xF x0) (nF x1) (wF x2) (sF x3) r ⟨7168 + (g.val * 128 + l.val), by have := g.isLt; have := l.isLt; omega⟩)
      (csR (x4 (ix2 r 0)) fun l => x5 (ix2 0 l)) (snR (x4 (ix2 r 0)) fun l => x5 (ix2 0 l)) l := by
  unfold out0_7 k0_pay23 k0_pay22 k0_pay21 k0_pay20 k0_pay19
  simp (disch := decide) only [View.ld_unit_lit', View.canon_cons_unit_lit']
  rw [pay2_at]
  simp only [pay13_at, pay11_at, pay16_at, pay17_at]
  rfl

/-- The values that the body stores, entry by entry. -/
theorem out8_at (r : Fin 256) (g : Fin 8) (l : Fin 128) :
    out0_8 x0 x1 x2 x3 x4 x5 (ix4 r 0 g l) = prjR (xF x0) (nF x1) (wF x2) (sF x3) r ⟨8192 + (g.val * 128 + l.val), by have := g.isLt; have := l.isLt; omega⟩ := by
  unfold out0_8 k0_pay21 k0_pay20 k0_pay19
  simp (disch := decide) only [View.ld_unit_lit', View.canon_cons_unit_lit']
  rw [pay3_at, pay14_at, pay11_at]

/-- The codes that the body stores, entry by entry. -/
theorem out9_at (r : Fin 256) (n : Fin 7168) : out0_9 x0 x1 x2 x3 x4 x5 (ix3 r 0 n) = codeR (xF x0) (nF x1) r n := by
  unfold out0_9 k0_pay21 k0_pay19
  simp (disch := decide) only [View.ld_unit_lit', View.canon_cons_unit_lit']
  rw [pay9_at]

/-- The scales that the body stores, entry by entry. -/
theorem out10_at (r : Fin 256) (g : Fin 56) : out0_10 x0 x1 x2 x3 x4 x5 (ix3 r 0 g) = Ideal.exp2 (rE (aS (xF x0) (nF x1) r g)) := by
  unfold out0_10 k0_pay20
  simp (disch := decide) only [View.ld_unit_lit', View.canon_cons_unit_lit']
  rw [pay10_at]

end

/-! ## The blocks it reads -/

variable (m : (ℓ : Loc nD τ sig) → Buf (Elt Ideal) ℓ) (ρ : Dev nD → PrngReg)

/-- The input rows. -/
def gX (c : Dev nD) (r : Fin 256) (n : Fin 7168) : EReal := V m c main_v8 (ix2 r n)
/-- The norm's weights. -/
def gN (c : Dev nD) (n : Fin 7168) : EReal := V m c main_v9 (ix2 0 n)
/-- The projection's weights. -/
def gW (c : Dev nD) (k : Fin 7168) (n : Fin 9216) : EReal := V m c main_arg2 (ix2 k n)
/-- Their scales. -/
def gS (c : Dev nD) (n : Fin 9216) : EReal := V m c main_v10 (ix2 0 n)
/-- The positions. -/
def gP (c : Dev nD) (r : Fin 256) : BitVec 32 := V m c main_arg4 (ix2 r 0)
/-- The rotation's frequencies. -/
def gF (c : Dev nD) (l : Fin 64) : EReal := V m c main_v11 (ix2 0 l)

/-- Where window 0's block lies. -/
theorem idx_in0 : ∀ t : Fin cfg0.N, win0_0.index t (0 : Fin 2) = 0 ∧ win0_0.index t (1 : Fin 2) = 0 :=
  (by decide +kernel : ∀ t : Fin grid0.N, _)

/-- Window 0's block, by place. -/
theorem iblk_0 (c : Dev nD) (t : Fin cfg0.N) (r : Fin 256) (n : Fin 7168) : iblk m c 0 t (ix2 r n) = gX m c r n := by
  obtain ⟨e0, e1⟩ := idx_in0 t
  show V m c main_v8 (((cfg0.win 0).blk t).view.emb (ix2 r n)) = V m c main_v8 (ix2 r n)
  refine congrArg _ (funext fun a => Fin.ext ?_)
  match a with
  | ⟨0, _⟩ => show win0_0.index t (0 : Fin 2) * 256 + 1 * r.val = r.val; omega
  | ⟨1, _⟩ => show win0_0.index t (1 : Fin 2) * 7168 + 1 * n.val = n.val; omega

/-- Where window 1's block lies. -/
theorem idx_in1 : ∀ t : Fin cfg0.N, win0_1.index t (0 : Fin 2) = 0 ∧ win0_1.index t (1 : Fin 2) = 0 :=
  (by decide +kernel : ∀ t : Fin grid0.N, _)

/-- Window 1's block, by place. -/
theorem iblk_1 (c : Dev nD) (t : Fin cfg0.N) (n : Fin 7168) : iblk m c 1 t (ix2 0 n) = gN m c n := by
  obtain ⟨e0, e1⟩ := idx_in1 t
  show V m c main_v9 (((cfg0.win 1).blk t).view.emb (ix2 0 n)) = V m c main_v9 (ix2 0 n)
  refine congrArg _ (funext fun a => Fin.ext ?_)
  match a with
  | ⟨0, _⟩ => show win0_1.index t (0 : Fin 2) * 1 + 1 * 0 = 0; omega
  | ⟨1, _⟩ => show win0_1.index t (1 : Fin 2) * 7168 + 1 * n.val = n.val; omega

/-- Where window 2's block lies. -/
theorem idx_in2 : ∀ t : Fin cfg0.N, win0_2.index t (0 : Fin 2) = 0 ∧ win0_2.index t (1 : Fin 2) = 0 :=
  (by decide +kernel : ∀ t : Fin grid0.N, _)

/-- Window 2's block, by place. -/
theorem iblk_2 (c : Dev nD) (t : Fin cfg0.N) (r : Fin 7168) (n : Fin 9216) : iblk m c 2 t (ix2 r n) = gW m c r n := by
  obtain ⟨e0, e1⟩ := idx_in2 t
  show V m c main_arg2 (((cfg0.win 2).blk t).view.emb (ix2 r n)) = V m c main_arg2 (ix2 r n)
  refine congrArg _ (funext fun a => Fin.ext ?_)
  match a with
  | ⟨0, _⟩ => show win0_2.index t (0 : Fin 2) * 7168 + 1 * r.val = r.val; omega
  | ⟨1, _⟩ => show win0_2.index t (1 : Fin 2) * 9216 + 1 * n.val = n.val; omega

/-- Where window 3's block lies. -/
theorem idx_in3 : ∀ t : Fin cfg0.N, win0_3.index t (0 : Fin 2) = 0 ∧ win0_3.index t (1 : Fin 2) = 0 :=
  (by decide +kernel : ∀ t : Fin grid0.N, _)

/-- Window 3's block, by place. -/
theorem iblk_3 (c : Dev nD) (t : Fin cfg0.N) (n : Fin 9216) : iblk m c 3 t (ix2 0 n) = gS m c n := by
  obtain ⟨e0, e1⟩ := idx_in3 t
  show V m c main_v10 (((cfg0.win 3).blk t).view.emb (ix2 0 n)) = V m c main_v10 (ix2 0 n)
  refine congrArg _ (funext fun a => Fin.ext ?_)
  match a with
  | ⟨0, _⟩ => show win0_3.index t (0 : Fin 2) * 1 + 1 * 0 = 0; omega
  | ⟨1, _⟩ => show win0_3.index t (1 : Fin 2) * 9216 + 1 * n.val = n.val; omega

/-- Where window 4's block lies. -/
theorem idx_in4 : ∀ t : Fin cfg0.N, win0_4.index t (0 : Fin 2) = 0 ∧ win0_4.index t (1 : Fin 2) = 0 :=
  (by decide +kernel : ∀ t : Fin grid0.N, _)

/-- Window 4's block, by place. -/
theorem iblk_4 (c : Dev nD) (t : Fin cfg0.N) (r : Fin 256) : iblk m c 4 t (ix2 r 0) = gP m c r := by
  obtain ⟨e0, e1⟩ := idx_in4 t
  show V m c main_arg4 (((cfg0.win 4).blk t).view.emb (ix2 r 0)) = V m c main_arg4 (ix2 r 0)
  refine congrArg _ (funext fun a => Fin.ext ?_)
  match a with
  | ⟨0, _⟩ => show win0_4.index t (0 : Fin 2) * 256 + 1 * r.val = r.val; omega
  | ⟨1, _⟩ => show win0_4.index t (1 : Fin 2) * 1 + 1 * 0 = 0; omega

/-- Where window 5's block lies. -/
theorem idx_in5 : ∀ t : Fin cfg0.N, win0_5.index t (0 : Fin 2) = 0 ∧ win0_5.index t (1 : Fin 2) = 0 :=
  (by decide +kernel : ∀ t : Fin grid0.N, _)

/-- Window 5's block, by place. -/
theorem iblk_5 (c : Dev nD) (t : Fin cfg0.N) (n : Fin 64) : iblk m c 5 t (ix2 0 n) = gF m c n := by
  obtain ⟨e0, e1⟩ := idx_in5 t
  show V m c main_v11 (((cfg0.win 5).blk t).view.emb (ix2 0 n)) = V m c main_v11 (ix2 0 n)
  refine congrArg _ (funext fun a => Fin.ext ?_)
  match a with
  | ⟨0, _⟩ => show win0_5.index t (0 : Fin 2) * 1 + 1 * 0 = 0; omega
  | ⟨1, _⟩ => show win0_5.index t (1 : Fin 2) * 64 + 1 * n.val = n.val; omega

/-! ## The arrays at the end -/

/-- The queries. -/
def G6 (c : Dev nD) : Buf (Elt Ideal) ((c : Thread nD τ).loc main_v12_0) := fun i => rotR (fun l => prjR (gX m c) (gN m c) (gW m c) (gS m c) (i 0) ⟨(i 2).val * 128 + l.val, by have h : (i 2).val < 56 := (i 2).isLt; have := l.isLt; omega⟩) (csR (gP m c (i 0)) (gF m c)) (snR (gP m c (i 0)) (gF m c)) (i 3)

/-- The queries' block starts at the origin. -/
theorem index6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)

/-- The queries are written back at the one point. -/
theorem flush6 : (cfg0.win 6).flush (⟨0, by decide⟩ : Fin cfg0.N) = true := (by decide +kernel : win0_6.flush (⟨0, by decide⟩ : Fin grid0.N) = true)

/-- What is written back of the queries. -/
theorem flushed6_eq (c : Dev nD) (t : Fin cfg0.N) : (dats m 0 c).flushed 6 t = ((cfg0.win 6).blk t).view.read (Elt Ideal) (G6 m c) := by
  show (cfg0.win 6).cut (grid0.coords t) ((dats m 0 c).after 6 t) = _
  rw [after0_6]
  obtain ⟨e0, e1, e2, e3⟩ := index6 t
  funext y
  have hy0 : (y 0).val < 256 := (y 0).isLt
  have hy1 : (y 1).val < 1 := (y 1).isLt
  have hy2 : (y 2).val < 56 := (y 2).isLt
  have hy3 : (y 3).val < 128 := (y 3).isLt
  show out0_6 (iblk m c 0 t) (iblk m c 1 t) (iblk m c 2 t) (iblk m c 3 t) (iblk m c 4 t) (iblk m c 5 t) ((cfg0.win 6).xinj (grid0.coords t) y) = G6 m c (((cfg0.win 6).blk t).view.emb y)
  have hx : (cfg0.win 6).xinj (grid0.coords t) y = ix4 (⟨(y 0).val, hy0⟩ : Fin 256) 0 (⟨(y 2).val, hy2⟩ : Fin 56) (⟨(y 3).val, hy3⟩ : Fin 128) := by
    funext a; apply Fin.ext
    match a with
    | ⟨0, _⟩ => rfl
    | ⟨1, _⟩ => show (y 1).val = 0; omega
    | ⟨2, _⟩ => rfl
    | ⟨3, _⟩ => rfl
  have hz : ((cfg0.win 6).blk t).view.emb y = ix4 (⟨(y 0).val, hy0⟩ : Fin 256) 0 (⟨(y 2).val, hy2⟩ : Fin 56) (⟨(y 3).val, hy3⟩ : Fin 128) := by
    funext a; apply Fin.ext
    match a with
    | ⟨0, _⟩ => show win0_6.index t (0 : Fin 4) * 256 + 1 * (y 0).val = (y 0).val; omega
    | ⟨1, _⟩ => show win0_6.index t (1 : Fin 4) * 1 + 1 * (y 1).val = 0; omega
    | ⟨2, _⟩ => show win0_6.index t (2 : Fin 4) * 56 + 1 * (y 2).val = (y 2).val; omega
    | ⟨3, _⟩ => show win0_6.index t (3 : Fin 4) * 128 + 1 * (y 3).val = (y 3).val; omega
  rw [hx, hz, out6_at]
  have h0 : xF (iblk m c 0 t) = gX m c := funext fun r => funext fun n => iblk_0 m c t r n
  have h1 : nF (iblk m c 1 t) = gN m c := funext fun n => iblk_1 m c t n
  have h2 : wF (iblk m c 2 t) = gW m c := funext fun r => funext fun n => iblk_2 m c t r n
  have h3 : sF (iblk m c 3 t) = gS m c := funext fun n => iblk_3 m c t n
  have h5 : (fun l => iblk m c 5 t (ix2 0 l)) = gF m c := funext fun n => iblk_5 m c t n
  rw [h0, h1, h2, h3, h5, iblk_4]
  rfl

/-- The queries' block is the whole array. -/
theorem mem_blk6 (t : Fin cfg0.N) (i : S256x1x56x128.Idx) :
    i ∈ ((cfg0.win 6).blk t).view.set ↔ ∀ a : Fin 4, win0_6.index t a * S256x1x56x128.size a ≤ (i a).val ∧ (i a).val < win0_6.index t a * S256x1x56x128.size a + S256x1x56x128.size a := by
  show i ∈ ((View.whole main_v12_0).slice (win0_6.rect t)).set ↔ _
  rw [View.set_slice_whole, Rect.mem_set_unit]
  exact Iff.rfl

/-- The queries in the end. -/
theorem final6 (c : Dev nD) : (dats m 0 c).arrAt 6 cfg0.N = G6 m c := by
  refine (dats m 0 c).arrAt_eq_of_cover 6 _ (fun t _ => flushed6_eq m c t) (fun i => ?_)
  have h0 : (i 0).val < 256 := (i 0).isLt
  have h1 : (i 1).val < 1 := (i 1).isLt
  have h2 : (i 2).val < 56 := (i 2).isLt
  have h3 : (i 3).val < 128 := (i 3).isLt
  refine ⟨⟨0, by decide⟩, flush6, ?_⟩
  rw [mem_blk6]
  obtain ⟨e0, e1, e2, e3⟩ := index6 ⟨0, by decide⟩
  intro a
  match a with
  | ⟨0, _⟩ => show win0_6.index _ (0 : Fin 4) * 256 ≤ (i 0).val ∧ (i 0).val < win0_6.index _ (0 : Fin 4) * 256 + 256; rw [e0]; omega
  | ⟨1, _⟩ => show win0_6.index _ (1 : Fin 4) * 1 ≤ (i 1).val ∧ (i 1).val < win0_6.index _ (1 : Fin 4) * 1 + 1; rw [e1]; omega
  | ⟨2, _⟩ => show win0_6.index _ (2 : Fin 4) * 56 ≤ (i 2).val ∧ (i 2).val < win0_6.index _ (2 : Fin 4) * 56 + 56; rw [e2]; omega
  | ⟨3, _⟩ => show win0_6.index _ (3 : Fin 4) * 128 ≤ (i 3).val ∧ (i 3).val < win0_6.index _ (3 : Fin 4) * 128 + 128; rw [e3]; omega

/-- The keys. -/
def G7 (c : Dev nD) : Buf (Elt Ideal) ((c : Thread nD τ).loc main_v12_1) := fun i => rotR (fun l => prjR (gX m c) (gN m c) (gW m c) (gS m c) (i 0) ⟨7168 + ((i 2).val * 128 + l.val), by have h : (i 2).val < 8 := (i 2).isLt; have := l.isLt; omega⟩) (csR (gP m c (i 0)) (gF m c)) (snR (gP m c (i 0)) (gF m c)) (i 3)

/-- The keys' block starts at the origin. -/
theorem index7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- The keys are written back at the one point. -/
theorem flush7 : (cfg0.win 7).flush (⟨0, by decide⟩ : Fin cfg0.N) = true := (by decide +kernel : win0_7.flush (⟨0, by decide⟩ : Fin grid0.N) = true)

/-- What is written back of the keys. -/
theorem flushed7_eq (c : Dev nD) (t : Fin cfg0.N) : (dats m 0 c).flushed 7 t = ((cfg0.win 7).blk t).view.read (Elt Ideal) (G7 m c) := by
  show (cfg0.win 7).cut (grid0.coords t) ((dats m 0 c).after 7 t) = _
  rw [after0_7]
  obtain ⟨e0, e1, e2, e3⟩ := index7 t
  funext y
  have hy0 : (y 0).val < 256 := (y 0).isLt
  have hy1 : (y 1).val < 1 := (y 1).isLt
  have hy2 : (y 2).val < 8 := (y 2).isLt
  have hy3 : (y 3).val < 128 := (y 3).isLt
  show out0_7 (iblk m c 0 t) (iblk m c 1 t) (iblk m c 2 t) (iblk m c 3 t) (iblk m c 4 t) (iblk m c 5 t) ((cfg0.win 7).xinj (grid0.coords t) y) = G7 m c (((cfg0.win 7).blk t).view.emb y)
  have hx : (cfg0.win 7).xinj (grid0.coords t) y = ix4 (⟨(y 0).val, hy0⟩ : Fin 256) 0 (⟨(y 2).val, hy2⟩ : Fin 8) (⟨(y 3).val, hy3⟩ : Fin 128) := by
    funext a; apply Fin.ext
    match a with
    | ⟨0, _⟩ => rfl
    | ⟨1, _⟩ => show (y 1).val = 0; omega
    | ⟨2, _⟩ => rfl
    | ⟨3, _⟩ => rfl
  have hz : ((cfg0.win 7).blk t).view.emb y = ix4 (⟨(y 0).val, hy0⟩ : Fin 256) 0 (⟨(y 2).val, hy2⟩ : Fin 8) (⟨(y 3).val, hy3⟩ : Fin 128) := by
    funext a; apply Fin.ext
    match a with
    | ⟨0, _⟩ => show win0_7.index t (0 : Fin 4) * 256 + 1 * (y 0).val = (y 0).val; omega
    | ⟨1, _⟩ => show win0_7.index t (1 : Fin 4) * 1 + 1 * (y 1).val = 0; omega
    | ⟨2, _⟩ => show win0_7.index t (2 : Fin 4) * 8 + 1 * (y 2).val = (y 2).val; omega
    | ⟨3, _⟩ => show win0_7.index t (3 : Fin 4) * 128 + 1 * (y 3).val = (y 3).val; omega
  rw [hx, hz, out7_at]
  have h0 : xF (iblk m c 0 t) = gX m c := funext fun r => funext fun n => iblk_0 m c t r n
  have h1 : nF (iblk m c 1 t) = gN m c := funext fun n => iblk_1 m c t n
  have h2 : wF (iblk m c 2 t) = gW m c := funext fun r => funext fun n => iblk_2 m c t r n
  have h3 : sF (iblk m c 3 t) = gS m c := funext fun n => iblk_3 m c t n
  have h5 : (fun l => iblk m c 5 t (ix2 0 l)) = gF m c := funext fun n => iblk_5 m c t n
  rw [h0, h1, h2, h3, h5, iblk_4]
  rfl

/-- The keys' block is the whole array. -/
theorem mem_blk7 (t : Fin cfg0.N) (i : S256x1x8x128.Idx) :
    i ∈ ((cfg0.win 7).blk t).view.set ↔ ∀ a : Fin 4, win0_7.index t a * S256x1x8x128.size a ≤ (i a).val ∧ (i a).val < win0_7.index t a * S256x1x8x128.size a + S256x1x8x128.size a := by
  show i ∈ ((View.whole main_v12_1).slice (win0_7.rect t)).set ↔ _
  rw [View.set_slice_whole, Rect.mem_set_unit]
  exact Iff.rfl

/-- The keys in the end. -/
theorem final7 (c : Dev nD) : (dats m 0 c).arrAt 7 cfg0.N = G7 m c := by
  refine (dats m 0 c).arrAt_eq_of_cover 7 _ (fun t _ => flushed7_eq m c t) (fun i => ?_)
  have h0 : (i 0).val < 256 := (i 0).isLt
  have h1 : (i 1).val < 1 := (i 1).isLt
  have h2 : (i 2).val < 8 := (i 2).isLt
  have h3 : (i 3).val < 128 := (i 3).isLt
  refine ⟨⟨0, by decide⟩, flush7, ?_⟩
  rw [mem_blk7]
  obtain ⟨e0, e1, e2, e3⟩ := index7 ⟨0, by decide⟩
  intro a
  match a with
  | ⟨0, _⟩ => show win0_7.index _ (0 : Fin 4) * 256 ≤ (i 0).val ∧ (i 0).val < win0_7.index _ (0 : Fin 4) * 256 + 256; rw [e0]; omega
  | ⟨1, _⟩ => show win0_7.index _ (1 : Fin 4) * 1 ≤ (i 1).val ∧ (i 1).val < win0_7.index _ (1 : Fin 4) * 1 + 1; rw [e1]; omega
  | ⟨2, _⟩ => show win0_7.index _ (2 : Fin 4) * 8 ≤ (i 2).val ∧ (i 2).val < win0_7.index _ (2 : Fin 4) * 8 + 8; rw [e2]; omega
  | ⟨3, _⟩ => show win0_7.index _ (3 : Fin 4) * 128 ≤ (i 3).val ∧ (i 3).val < win0_7.index _ (3 : Fin 4) * 128 + 128; rw [e3]; omega

/-- The values. -/
def G8 (c : Dev nD) : Buf (Elt Ideal) ((c : Thread nD τ).loc main_v12_2) := fun i => prjR (gX m c) (gN m c) (gW m c) (gS m c) (i 0) ⟨8192 + ((i 2).val * 128 + (i 3).val), by have h : (i 2).val < 8 := (i 2).isLt; have h' : (i 3).val < 128 := (i 3).isLt; omega⟩

/-- The values' block starts at the origin. -/
theorem index8 : ∀ t : Fin cfg0.N, win0_8.index t (0 : Fin 4) = 0 ∧ win0_8.index t (1 : Fin 4) = 0 ∧ win0_8.index t (2 : Fin 4) = 0 ∧ win0_8.index t (3 : Fin 4) = 0 :=
  (by decide +kernel : ∀ t : Fin grid0.N, _)

/-- The values are written back at the one point. -/
theorem flush8 : (cfg0.win 8).flush (⟨0, by decide⟩ : Fin cfg0.N) = true := (by decide +kernel : win0_8.flush (⟨0, by decide⟩ : Fin grid0.N) = true)

/-- What is written back of the values. -/
theorem flushed8_eq (c : Dev nD) (t : Fin cfg0.N) : (dats m 0 c).flushed 8 t = ((cfg0.win 8).blk t).view.read (Elt Ideal) (G8 m c) := by
  show (cfg0.win 8).cut (grid0.coords t) ((dats m 0 c).after 8 t) = _
  rw [after0_8]
  obtain ⟨e0, e1, e2, e3⟩ := index8 t
  funext y
  have hy0 : (y 0).val < 256 := (y 0).isLt
  have hy1 : (y 1).val < 1 := (y 1).isLt
  have hy2 : (y 2).val < 8 := (y 2).isLt
  have hy3 : (y 3).val < 128 := (y 3).isLt
  show out0_8 (iblk m c 0 t) (iblk m c 1 t) (iblk m c 2 t) (iblk m c 3 t) (iblk m c 4 t) (iblk m c 5 t) ((cfg0.win 8).xinj (grid0.coords t) y) = G8 m c (((cfg0.win 8).blk t).view.emb y)
  have hx : (cfg0.win 8).xinj (grid0.coords t) y = ix4 (⟨(y 0).val, hy0⟩ : Fin 256) 0 (⟨(y 2).val, hy2⟩ : Fin 8) (⟨(y 3).val, hy3⟩ : Fin 128) := by
    funext a; apply Fin.ext
    match a with
    | ⟨0, _⟩ => rfl
    | ⟨1, _⟩ => show (y 1).val = 0; omega
    | ⟨2, _⟩ => rfl
    | ⟨3, _⟩ => rfl
  have hz : ((cfg0.win 8).blk t).view.emb y = ix4 (⟨(y 0).val, hy0⟩ : Fin 256) 0 (⟨(y 2).val, hy2⟩ : Fin 8) (⟨(y 3).val, hy3⟩ : Fin 128) := by
    funext a; apply Fin.ext
    match a with
    | ⟨0, _⟩ => show win0_8.index t (0 : Fin 4) * 256 + 1 * (y 0).val = (y 0).val; omega
    | ⟨1, _⟩ => show win0_8.index t (1 : Fin 4) * 1 + 1 * (y 1).val = 0; omega
    | ⟨2, _⟩ => show win0_8.index t (2 : Fin 4) * 8 + 1 * (y 2).val = (y 2).val; omega
    | ⟨3, _⟩ => show win0_8.index t (3 : Fin 4) * 128 + 1 * (y 3).val = (y 3).val; omega
  rw [hx, hz, out8_at]
  have h0 : xF (iblk m c 0 t) = gX m c := funext fun r => funext fun n => iblk_0 m c t r n
  have h1 : nF (iblk m c 1 t) = gN m c := funext fun n => iblk_1 m c t n
  have h2 : wF (iblk m c 2 t) = gW m c := funext fun r => funext fun n => iblk_2 m c t r n
  have h3 : sF (iblk m c 3 t) = gS m c := funext fun n => iblk_3 m c t n
  rw [h0, h1, h2, h3]
  rfl

/-- The values' block is the whole array. -/
theorem mem_blk8 (t : Fin cfg0.N) (i : S256x1x8x128.Idx) :
    i ∈ ((cfg0.win 8).blk t).view.set ↔ ∀ a : Fin 4, win0_8.index t a * S256x1x8x128.size a ≤ (i a).val ∧ (i a).val < win0_8.index t a * S256x1x8x128.size a + S256x1x8x128.size a := by
  show i ∈ ((View.whole main_v12_2).slice (win0_8.rect t)).set ↔ _
  rw [View.set_slice_whole, Rect.mem_set_unit]
  exact Iff.rfl

/-- The values in the end. -/
theorem final8 (c : Dev nD) : (dats m 0 c).arrAt 8 cfg0.N = G8 m c := by
  refine (dats m 0 c).arrAt_eq_of_cover 8 _ (fun t _ => flushed8_eq m c t) (fun i => ?_)
  have h0 : (i 0).val < 256 := (i 0).isLt
  have h1 : (i 1).val < 1 := (i 1).isLt
  have h2 : (i 2).val < 8 := (i 2).isLt
  have h3 : (i 3).val < 128 := (i 3).isLt
  refine ⟨⟨0, by decide⟩, flush8, ?_⟩
  rw [mem_blk8]
  obtain ⟨e0, e1, e2, e3⟩ := index8 ⟨0, by decide⟩
  intro a
  match a with
  | ⟨0, _⟩ => show win0_8.index _ (0 : Fin 4) * 256 ≤ (i 0).val ∧ (i 0).val < win0_8.index _ (0 : Fin 4) * 256 + 256; rw [e0]; omega
  | ⟨1, _⟩ => show win0_8.index _ (1 : Fin 4) * 1 ≤ (i 1).val ∧ (i 1).val < win0_8.index _ (1 : Fin 4) * 1 + 1; rw [e1]; omega
  | ⟨2, _⟩ => show win0_8.index _ (2 : Fin 4) * 8 ≤ (i 2).val ∧ (i 2).val < win0_8.index _ (2 : Fin 4) * 8 + 8; rw [e2]; omega
  | ⟨3, _⟩ => show win0_8.index _ (3 : Fin 4) * 128 ≤ (i 3).val ∧ (i 3).val < win0_8.index _ (3 : Fin 4) * 128 + 128; rw [e3]; omega

/-- The codes. -/
def G9 (c : Dev nD) : Buf (Elt Ideal) ((c : Thread nD τ).loc main_v12_3) := fun i => codeR (gX m c) (gN m c) (i 0) (i 2)

/-- The codes' block starts at the origin. -/
theorem index9 : ∀ t : Fin cfg0.N, win0_9.index t (0 : Fin 3) = 0 ∧ win0_9.index t (1 : Fin 3) = 0 ∧ win0_9.index t (2 : Fin 3) = 0 :=
  (by decide +kernel : ∀ t : Fin grid0.N, _)

/-- The codes are written back at the one point. -/
theorem flush9 : (cfg0.win 9).flush (⟨0, by decide⟩ : Fin cfg0.N) = true := (by decide +kernel : win0_9.flush (⟨0, by decide⟩ : Fin grid0.N) = true)

/-- What is written back of the codes. -/
theorem flushed9_eq (c : Dev nD) (t : Fin cfg0.N) : (dats m 0 c).flushed 9 t = ((cfg0.win 9).blk t).view.read (Elt Ideal) (G9 m c) := by
  show (cfg0.win 9).cut (grid0.coords t) ((dats m 0 c).after 9 t) = _
  rw [after0_9]
  obtain ⟨e0, e1, e2⟩ := index9 t
  funext y
  have hy0 : (y 0).val < 256 := (y 0).isLt
  have hy1 : (y 1).val < 1 := (y 1).isLt
  have hy2 : (y 2).val < 7168 := (y 2).isLt
  show out0_9 (iblk m c 0 t) (iblk m c 1 t) (iblk m c 2 t) (iblk m c 3 t) (iblk m c 4 t) (iblk m c 5 t) ((cfg0.win 9).xinj (grid0.coords t) y) = G9 m c (((cfg0.win 9).blk t).view.emb y)
  have hx : (cfg0.win 9).xinj (grid0.coords t) y = ix3 (⟨(y 0).val, hy0⟩ : Fin 256) 0 (⟨(y 2).val, hy2⟩ : Fin 7168) := by
    funext a; apply Fin.ext
    match a with
    | ⟨0, _⟩ => rfl
    | ⟨1, _⟩ => show (y 1).val = 0; omega
    | ⟨2, _⟩ => rfl
  have hz : ((cfg0.win 9).blk t).view.emb y = ix3 (⟨(y 0).val, hy0⟩ : Fin 256) 0 (⟨(y 2).val, hy2⟩ : Fin 7168) := by
    funext a; apply Fin.ext
    match a with
    | ⟨0, _⟩ => show win0_9.index t (0 : Fin 3) * 256 + 1 * (y 0).val = (y 0).val; omega
    | ⟨1, _⟩ => show win0_9.index t (1 : Fin 3) * 1 + 1 * (y 1).val = 0; omega
    | ⟨2, _⟩ => show win0_9.index t (2 : Fin 3) * 7168 + 1 * (y 2).val = (y 2).val; omega
  rw [hx, hz, out9_at]
  have h0 : xF (iblk m c 0 t) = gX m c := funext fun r => funext fun n => iblk_0 m c t r n
  have h1 : nF (iblk m c 1 t) = gN m c := funext fun n => iblk_1 m c t n
  rw [h0, h1]
  rfl

/-- The codes' block is the whole array. -/
theorem mem_blk9 (t : Fin cfg0.N) (i : S256x1x7168.Idx) :
    i ∈ ((cfg0.win 9).blk t).view.set ↔ ∀ a : Fin 3, win0_9.index t a * S256x1x7168.size a ≤ (i a).val ∧ (i a).val < win0_9.index t a * S256x1x7168.size a + S256x1x7168.size a := by
  show i ∈ ((View.whole main_v12_3).slice (win0_9.rect t)).set ↔ _
  rw [View.set_slice_whole, Rect.mem_set_unit]
  exact Iff.rfl

/-- The codes in the end. -/
theorem final9 (c : Dev nD) : (dats m 0 c).arrAt 9 cfg0.N = G9 m c := by
  refine (dats m 0 c).arrAt_eq_of_cover 9 _ (fun t _ => flushed9_eq m c t) (fun i => ?_)
  have h0 : (i 0).val < 256 := (i 0).isLt
  have h1 : (i 1).val < 1 := (i 1).isLt
  have h2 : (i 2).val < 7168 := (i 2).isLt
  refine ⟨⟨0, by decide⟩, flush9, ?_⟩
  rw [mem_blk9]
  obtain ⟨e0, e1, e2⟩ := index9 ⟨0, by decide⟩
  intro a
  match a with
  | ⟨0, _⟩ => show win0_9.index _ (0 : Fin 3) * 256 ≤ (i 0).val ∧ (i 0).val < win0_9.index _ (0 : Fin 3) * 256 + 256; rw [e0]; omega
  | ⟨1, _⟩ => show win0_9.index _ (1 : Fin 3) * 1 ≤ (i 1).val ∧ (i 1).val < win0_9.index _ (1 : Fin 3) * 1 + 1; rw [e1]; omega
  | ⟨2, _⟩ => show win0_9.index _ (2 : Fin 3) * 7168 ≤ (i 2).val ∧ (i 2).val < win0_9.index _ (2 : Fin 3) * 7168 + 7168; rw [e2]; omega

/-- The scales. -/
def G10 (c : Dev nD) : Buf (Elt Ideal) ((c : Thread nD τ).loc main_v12_4) := fun i => Ideal.exp2 (rE (aS (gX m c) (gN m c) (i 0) (i 2)))

/-- The scales' block starts at the origin. -/
theorem index10 : ∀ t : Fin cfg0.N, win0_10.index t (0 : Fin 3) = 0 ∧ win0_10.index t (1 : Fin 3) = 0 ∧ win0_10.index t (2 : Fin 3) = 0 :=
  (by decide +kernel : ∀ t : Fin grid0.N, _)

/-- The scales are written back at the one point. -/
theorem flush10 : (cfg0.win 10).flush (⟨0, by decide⟩ : Fin cfg0.N) = true := (by decide +kernel : win0_10.flush (⟨0, by decide⟩ : Fin grid0.N) = true)

/-- What is written back of the scales. -/
theorem flushed10_eq (c : Dev nD) (t : Fin cfg0.N) : (dats m 0 c).flushed 10 t = ((cfg0.win 10).blk t).view.read (Elt Ideal) (G10 m c) := by
  show (cfg0.win 10).cut (grid0.coords t) ((dats m 0 c).after 10 t) = _
  rw [after0_10]
  obtain ⟨e0, e1, e2⟩ := index10 t
  funext y
  have hy0 : (y 0).val < 256 := (y 0).isLt
  have hy1 : (y 1).val < 1 := (y 1).isLt
  have hy2 : (y 2).val < 56 := (y 2).isLt
  show out0_10 (iblk m c 0 t) (iblk m c 1 t) (iblk m c 2 t) (iblk m c 3 t) (iblk m c 4 t) (iblk m c 5 t) ((cfg0.win 10).xinj (grid0.coords t) y) = G10 m c (((cfg0.win 10).blk t).view.emb y)
  have hx : (cfg0.win 10).xinj (grid0.coords t) y = ix3 (⟨(y 0).val, hy0⟩ : Fin 256) 0 (⟨(y 2).val, hy2⟩ : Fin 56) := by
    funext a; apply Fin.ext
    match a with
    | ⟨0, _⟩ => rfl
    | ⟨1, _⟩ => show (y 1).val = 0; omega
    | ⟨2, _⟩ => rfl
  have hz : ((cfg0.win 10).blk t).view.emb y = ix3 (⟨(y 0).val, hy0⟩ : Fin 256) 0 (⟨(y 2).val, hy2⟩ : Fin 56) := by
    funext a; apply Fin.ext
    match a with
    | ⟨0, _⟩ => show win0_10.index t (0 : Fin 3) * 256 + 1 * (y 0).val = (y 0).val; omega
    | ⟨1, _⟩ => show win0_10.index t (1 : Fin 3) * 1 + 1 * (y 1).val = 0; omega
    | ⟨2, _⟩ => show win0_10.index t (2 : Fin 3) * 56 + 1 * (y 2).val = (y 2).val; omega
  rw [hx, hz, out10_at]
  have h0 : xF (iblk m c 0 t) = gX m c := funext fun r => funext fun n => iblk_0 m c t r n
  have h1 : nF (iblk m c 1 t) = gN m c := funext fun n => iblk_1 m c t n
  rw [h0, h1]
  rfl

/-- The scales' block is the whole array. -/
theorem mem_blk10 (t : Fin cfg0.N) (i : S256x1x56.Idx) :
    i ∈ ((cfg0.win 10).blk t).view.set ↔ ∀ a : Fin 3, win0_10.index t a * S256x1x56.size a ≤ (i a).val ∧ (i a).val < win0_10.index t a * S256x1x56.size a + S256x1x56.size a := by
  show i ∈ ((View.whole main_v12_4).slice (win0_10.rect t)).set ↔ _
  rw [View.set_slice_whole, Rect.mem_set_unit]
  exact Iff.rfl

/-- The scales in the end. -/
theorem final10 (c : Dev nD) : (dats m 0 c).arrAt 10 cfg0.N = G10 m c := by
  refine (dats m 0 c).arrAt_eq_of_cover 10 _ (fun t _ => flushed10_eq m c t) (fun i => ?_)
  have h0 : (i 0).val < 256 := (i 0).isLt
  have h1 : (i 1).val < 1 := (i 1).isLt
  have h2 : (i 2).val < 56 := (i 2).isLt
  refine ⟨⟨0, by decide⟩, flush10, ?_⟩
  rw [mem_blk10]
  obtain ⟨e0, e1, e2⟩ := index10 ⟨0, by decide⟩
  intro a
  match a with
  | ⟨0, _⟩ => show win0_10.index _ (0 : Fin 3) * 256 ≤ (i 0).val ∧ (i 0).val < win0_10.index _ (0 : Fin 3) * 256 + 256; rw [e0]; omega
  | ⟨1, _⟩ => show win0_10.index _ (1 : Fin 3) * 1 ≤ (i 1).val ∧ (i 1).val < win0_10.index _ (1 : Fin 3) * 1 + 1; rw [e1]; omega
  | ⟨2, _⟩ => show win0_10.index _ (2 : Fin 3) * 56 ≤ (i 2).val ∧ (i 2).val < win0_10.index _ (2 : Fin 3) * 56 + 56; rw [e2]; omega

/-! ## What it reads, from the arguments -/

/-- The rows. -/
theorem gX_eq (c : Dev nD) (r : Fin 256) (n : Fin 7168) : gX m c r n = m ((c : Thread nD τ).loc main_arg0) (ix3 r 0 n) := by
  unfold gX
  show StableHlo.after hostOps0 (fun b => m (c, b)) (Proc.tc.devRef main_v8) (ix2 r n) = _
  entry_read
  pointwise

/-- The norm's weights. -/
theorem gN_eq (c : Dev nD) (n : Fin 7168) : gN m c n = m ((c : Thread nD τ).loc main_arg1) (ix1 n) := by
  unfold gN
  show StableHlo.after hostOps0 (fun b => m (c, b)) (Proc.tc.devRef main_v9) (ix2 0 n) = _
  entry_read
  pointwise

/-- The columns' scales. -/
theorem gS_eq (c : Dev nD) (n : Fin 9216) : gS m c n = m ((c : Thread nD τ).loc main_arg3) (ix1 n) := by
  unfold gS
  show StableHlo.after hostOps0 (fun b => m (c, b)) (Proc.tc.devRef main_v10) (ix2 0 n) = _
  entry_read
  pointwise

/-- The frequencies. -/
theorem gF_eq (c : Dev nD) (n : Fin 64) : gF m c n = Cert.Spec.freq n.val := by
  unfold gF
  show StableHlo.after hostOps0 (fun b => m (c, b)) (Proc.tc.devRef main_v11) (ix2 0 n) = _
  entry_read
  pointwise
  rfl

/-- The weights. -/
theorem gW_eq (c : Dev nD) (k : Fin 7168) (n : Fin 9216) : gW m c k n = m ((c : Thread nD τ).loc main_arg2) (ix2 k n) := by
  unfold gW
  rw [V_main_arg2]

/-- The positions. -/
theorem gP_eq (c : Dev nD) (r : Fin 256) : gP m c r = m ((c : Thread nD τ).loc main_arg4) (ix2 r 0) := by
  unfold gP
  rw [V_main_arg4]

/-- The run, its results named. -/
theorem run_results : θ_run defs (onTc (τ := τ) (main (F := Ideal))) ⟨m, fun _ => 0, ρ⟩ fun r => ∀ c : Dev nD,
      r.2.mem ((c.tc : Thread nD τ).loc main_v12_0) = G6 m c
      ∧ r.2.mem ((c.tc : Thread nD τ).loc main_v12_1) = G7 m c
      ∧ r.2.mem ((c.tc : Thread nD τ).loc main_v12_2) = G8 m c
      ∧ r.2.mem ((c.tc : Thread nD τ).loc main_v12_3) = G9 m c
      ∧ r.2.mem ((c.tc : Thread nD τ).loc main_v12_4) = G10 m c :=
  (θ_run defs _ _).mono (fun r h c => ⟨((h c).1 6).trans (final6 m c), ((h c).1 7).trans (final7 m c), ((h c).1 8).trans (final8 m c),
      ((h c).1 9).trans (final9 m c), ((h c).1 10).trans (final10 m c)⟩)
    (run_main m ρ)

end Cert.ReferenceIdeal.Run

end
-- ==== Proof.Value.Bound.lean ====
/- The size of a group of normed values: below what the exponent field can hold when the weights are finite. -/
module

public import proofs.«01_k».proof.Proof.Value.Spec

@[expose] public section

noncomputable section

namespace Cert.Spec

open Idealize.ShloMosaic

/-- The constant 7168. -/
theorem ofBits_7168 : Ideal.ofBits FTy.f32 0x45E00000#32 = ((7168 : ℝ) : EReal) := by
  show Ideal.ieee 8 23 0x45E00000#32 = _
  have h1 : ((0x45E00000#32).extractLsb' 23 8).toNat = 139 := by decide
  have h2 : ((0x45E00000#32).extractLsb' 0 23).toNat = 6291456 := by decide
  have h3 : ((0x45E00000#32).extractLsb' (8 + 23) 1 == 1#1) = false := by decide
  unfold Ideal.ieee
  dsimp only
  rw [h1, h2, h3, if_neg (by decide), if_neg (by decide)]
  congr 1
  norm_num [zpow_neg]

/-- The constant added under the root is positive. -/
theorem ofBits_eps : ∃ e : ℝ, 0 < e ∧ Ideal.ofBits FTy.f32 0x3727C5AC#32 = (e : EReal) := by
  have h1 : ((0x3727C5AC#32).extractLsb' 23 8).toNat = 110 := by decide
  have h2 : ((0x3727C5AC#32).extractLsb' 0 23).toNat = 2606508 := by decide
  have h3 : ((0x3727C5AC#32).extractLsb' (8 + 23) 1 == 1#1) = false := by decide
  refine ⟨((if false then -1 else 1 : ℝ) * (2 ^ 23 + 2606508 : ℕ) * (2 : ℝ) ^ ((110 : ℤ) - (2 ^ (8 - 1) - 1) - (23 : ℕ))), by norm_num, ?_⟩
  show Ideal.ieee 8 23 0x3727C5AC#32 = _
  unfold Ideal.ieee
  dsimp only
  rw [h1, h2, h3, if_neg (by decide), if_neg (by decide)]
  norm_num

/-- The constant 1 / 448 is a small positive number. -/
theorem ofBits_448 : ∃ e : ℝ, 0 < e ∧ e * 340 < 1 ∧ Ideal.ofBits FTy.f32 0x3B124925#32 = (e : EReal) := by
  have h1 : ((0x3B124925#32).extractLsb' 23 8).toNat = 118 := by decide
  have h2 : ((0x3B124925#32).extractLsb' 0 23).toNat = 1198373 := by decide
  have h3 : ((0x3B124925#32).extractLsb' (8 + 23) 1 == 1#1) = false := by decide
  refine ⟨((9586981 : ℝ) / 4294967296), by norm_num, by norm_num, ?_⟩
  show Ideal.ieee 8 23 0x3B124925#32 = _
  unfold Ideal.ieee
  dsimp only
  rw [h1, h2, h3, if_neg (by decide), if_neg (by decide)]
  congr 1
  norm_num [zpow_neg]

/-- The greatest finite bfloat16 is below `2 ^ 128`. -/
theorem ofBits_max : ∃ e : ℝ, e ≤ (2 : ℝ) ^ (128 : ℤ) ∧ Ideal.ofBits FTy.f32 0x7F7F0000#32 = (e : EReal) := by
  have h1 : ((0x7F7F0000#32).extractLsb' 23 8).toNat = 254 := by decide
  have h2 : ((0x7F7F0000#32).extractLsb' 0 23).toNat = 8323072 := by decide
  have h3 : ((0x7F7F0000#32).extractLsb' (8 + 23) 1 == 1#1) = false := by decide
  refine ⟨(16711680 : ℝ) * (2 : ℝ) ^ (104 : ℤ), by norm_num, ?_⟩
  show Ideal.ieee 8 23 0x7F7F0000#32 = _
  unfold Ideal.ieee
  dsimp only
  rw [h1, h2, h3, if_neg (by decide), if_neg (by decide)]
  congr 1
  norm_num

/-- Minus infinity is below everything. -/
theorem ofBits_bot : Ideal.ofBits FTy.f32 0xFF800000#32 = ⊥ := by
  have h1 : ((0xFF800000#32).extractLsb' 23 8).toNat = 255 := by decide
  have h2 : ((0xFF800000#32).extractLsb' 0 23).toNat = 0 := by decide
  have h3 : ((0xFF800000#32).extractLsb' (8 + 23) 1 == 1#1) = true := by decide
  show Ideal.ieee 8 23 0xFF800000#32 = _
  unfold Ideal.ieee
  dsimp only
  rw [h1, h2, h3]
  simp

/-- A square is not negative. -/
theorem sq_nonneg' (x : EReal) : 0 ≤ x * x := by
  rcases le_total 0 x with h | h
  · exact mul_nonneg h h
  · rw [← neg_mul_neg]; exact mul_nonneg (EReal.neg_nonneg.2 h) (EReal.neg_nonneg.2 h)

/-- A finite sum of real numbers, as an extended real. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A value of a row times the row's reciprocal root mean square: a real number of size at most 85. -/
theorem norm_le (x : Fin 256 → Fin 7168 → EReal) (r : Fin 256) (n : Fin 7168) : ∃ t : ℝ, |t| ≤ 85 ∧ x r n * rS x r = (t : EReal) := by
  obtain ⟨ε, hε, eε⟩ := ofBits_eps
  unfold rS
  rw [eε, ofBits_7168]
  by_cases hx : ∀ k, ∃ q : ℝ, x r k = (q : EReal)
  · choose q hq using hx
    have hs : (∑ k, x r k * x r k) = ((∑ k, q k * q k : ℝ) : EReal) := by
      rw [coe_sum]
      exact Finset.sum_congr rfl fun k _ => by rw [hq k, ← EReal.coe_mul]
    have hS0 : 0 ≤ ∑ k, q k * q k := Finset.sum_nonneg fun k _ => mul_self_nonneg _
    have hSn : q n * q n ≤ ∑ k, q k * q k := Finset.single_le_sum (f := fun k => q k * q k) (fun k _ => mul_self_nonneg _) (Finset.mem_univ n)
    obtain ⟨S, hSe⟩ : ∃ S : ℝ, S = ∑ k, q k * q k := ⟨_, rfl⟩
    rw [← hSe] at hs hS0 hSn
    have hd : Ideal.div ((S : ℝ) : EReal) ((7168 : ℝ) : EReal) = ((S / 7168 : ℝ) : EReal) := by
      unfold Ideal.div
      rw [if_neg (by norm_cast), ← EReal.coe_inv, ← EReal.coe_mul, div_eq_mul_inv]
    have hp : 0 < S / 7168 + ε := add_pos_of_nonneg_of_pos (div_nonneg hS0 (by norm_num)) hε
    have hr : Ideal.rsqrt ((S / 7168 + ε : ℝ) : EReal) = (((Real.sqrt (S / 7168 + ε))⁻¹ : ℝ) : EReal) := by
      show (if (S / 7168 + ε) < 0 then (⊥ : EReal) else if (S / 7168 + ε) = 0 then ⊤ else (((Real.sqrt (S / 7168 + ε))⁻¹ : ℝ) : EReal)) = _
      rw [if_neg (not_lt.2 hp.le), if_neg hp.ne']
    rw [hs, hd, ← EReal.coe_add, hr, hq n, ← EReal.coe_mul]
    refine ⟨_, ?_, rfl⟩
    rw [abs_mul, abs_of_pos (inv_pos.2 (Real.sqrt_pos.2 hp)), ← div_eq_mul_inv, div_le_iff₀ (Real.sqrt_pos.2 hp)]
    refine abs_le_of_sq_le_sq ?_ (mul_nonneg (by norm_num) (Real.sqrt_nonneg _))
    rw [mul_pow, Real.sq_sqrt hp.le]
    nlinarith
  · push Not at hx
    obtain ⟨k, hk⟩ := hx
    have hkk : x r k * x r k = ⊤ := by
      induction hxk : x r k using EReal.rec with
      | bot => rfl
      | top => rfl
      | coe q => exact absurd hxk (hk q)
    have hs : (∑ k, x r k * x r k) = ⊤ := by
      apply top_le_iff.1
      rw [← hkk]
      exact Finset.single_le_sum (f := fun k => x r k * x r k) (fun k _ => sq_nonneg' _) (Finset.mem_univ k)
    have hd : Ideal.div (⊤ : EReal) ((7168 : ℝ) : EReal) = ⊤ := by
      unfold Ideal.div
      rw [if_neg (by norm_cast), ← EReal.coe_inv]
      exact EReal.top_mul_coe_of_pos (by norm_num)
    rw [hs, hd, EReal.top_add_coe]
    refine ⟨0, by norm_num, ?_⟩
    show x r n * (0 : EReal) = _
    rw [mul_zero]; rfl

/-- With finite weights every normed value is below `85 * 2 ^ 128` in size. -/
theorem h_le (x : Fin 256 → Fin 7168 → EReal) (nw : Fin 7168 → EReal) (hw : ∀ n, max (nw n) (-(nw n)) ≤ Ideal.ofBits FTy.f32 0x7F7F0000#32) (r : Fin 256) (n : Fin 7168) :
    max (hS x nw r n) (-(hS x nw r n)) ≤ ((85 * (2 : ℝ) ^ (128 : ℤ) : ℝ) : EReal) := by
  obtain ⟨t, ht, et⟩ := norm_le x r n
  obtain ⟨M, hM, eM⟩ := ofBits_max
  have hwn := hw n
  rw [eM] at hwn
  unfold hS
  rw [et]
  obtain ⟨w, hwe⟩ : ∃ w : ℝ, nw n = (w : EReal) := by
    refine ⟨(nw n).toReal, (EReal.coe_toReal ?_ ?_).symm⟩
    · intro h; rw [h] at hwn; exact absurd (le_trans (le_max_left _ _) hwn) (not_le.2 (EReal.coe_lt_top M))
    · intro h; rw [h] at hwn; exact absurd (le_trans (le_max_right _ _) hwn) (not_le.2 (by rw [EReal.neg_bot]; exact EReal.coe_lt_top M))
  rw [hwe] at hwn ⊢
  have hw1 : w ≤ M := by exact_mod_cast le_trans (le_max_left _ _) hwn
  have hw2 : -w ≤ M := by exact_mod_cast le_trans (le_max_right _ _) hwn
  have hwa : |w| ≤ (2 : ℝ) ^ (128 : ℤ) := le_trans (abs_le.2 ⟨by linarith, hw1⟩) hM
  have hp : |t * w| ≤ 85 * (2 : ℝ) ^ (128 : ℤ) := by
    rw [abs_mul]; exact mul_le_mul ht hwa (abs_nonneg _) (by norm_num)
  rw [← EReal.coe_mul, ← EReal.coe_neg]
  refine max_le ?_ ?_
  · exact_mod_cast le_trans (le_abs_self _) hp
  · exact_mod_cast le_trans (neg_le_abs _) hp

/-- The greatest size of a group, over 448, lies where the exponent field holds it. -/
theorem a_range (x : Fin 256 → Fin 7168 → EReal) (nw : Fin 7168 → EReal) (hw : ∀ n, max (nw n) (-(nw n)) ≤ Ideal.ofBits FTy.f32 0x7F7F0000#32) (r : Fin 256) (g : Fin 56) :
    0 ≤ aS x nw r g * Ideal.ofBits FTy.f32 0x3B124925#32 ∧ aS x nw r g * Ideal.ofBits FTy.f32 0x3B124925#32 < (((2 : ℝ) ^ (126 : ℤ) : ℝ) : EReal) := by
  obtain ⟨e, he0, he1, ee⟩ := ofBits_448
  have h0 : 0 ≤ aS x nw r g := by
    unfold aS
    rw [Finset.le_fold_max]
    refine .inr ⟨0, Finset.mem_univ _, ?_⟩
    rcases le_total 0 (hS x nw r (col g 0)) with h | h
    · exact le_max_of_le_left h
    · exact le_max_of_le_right (EReal.neg_nonneg.2 h)
  have h1 : aS x nw r g ≤ ((85 * (2 : ℝ) ^ (128 : ℤ) : ℝ) : EReal) := by
    unfold aS
    rw [Finset.fold_max_le]
    exact ⟨by rw [ofBits_bot]; exact bot_le, fun l _ => h_le x nw hw r _⟩
  obtain ⟨a, ha⟩ : ∃ a : ℝ, aS x nw r g = (a : EReal) := by
    refine ⟨(aS x nw r g).toReal, (EReal.coe_toReal ?_ ?_).symm⟩
    · exact ne_top_of_le_ne_top (EReal.coe_ne_top _) h1
    · intro h; rw [h] at h0; exact absurd h0 (by simp)
  rw [ha] at h0 h1
  have h0 : 0 ≤ a := by exact_mod_cast h0
  have h1 : a ≤ 85 * (2 : ℝ) ^ (128 : ℤ) := by exact_mod_cast h1
  rw [ha, ee, ← EReal.coe_mul]
  refine ⟨by exact_mod_cast mul_nonneg h0 he0.le, ?_⟩
  have : a * e < (2 : ℝ) ^ (126 : ℤ) := by
    have : a * e ≤ 85 * (2 : ℝ) ^ (128 : ℤ) * e := mul_le_mul_of_nonneg_right h1 he0.le
    have h2 : (2 : ℝ) ^ (128 : ℤ) = 4 * (2 : ℝ) ^ (126 : ℤ) := by norm_num
    have h3 : 0 < (2 : ℝ) ^ (126 : ℤ) := by positivity
    rw [h2] at this
    nlinarith
  exact_mod_cast this

/-- With finite weights the kernel's scale of each group, and its reciprocal, are the reference's. -/
theorem scales (x : Fin 256 → Fin 7168 → EReal) (nw : Fin 7168 → EReal) (hw : ∀ n, max (nw n) (-(nw n)) ≤ Ideal.ofBits FTy.f32 0x7F7F0000#32) (r : Fin 256) (g : Fin 56) :
    kS (kE (aS x nw r g)) = Ideal.exp2 (rE (aS x nw r g)) ∧ kI (kE (aS x nw r g)) = Ideal.exp2 (0 - rE (aS x nw r g)) :=
  scale_eq _ (a_range x nw hw r g).1 (a_range x nw hw r g).2

end Cert.Spec
-- ==== Proof.Value.Meet.lean ====
/- The kernel's results are the reference's. -/
module

public import proofs.«01_k».proof.Proof.Value.Arrays
public import proofs.«01_k».proof.Proof.Value.Ref
public import proofs.«01_k».proof.Proof.Value.Bound

@[expose] public section

set_option maxRecDepth 16384

noncomputable section

namespace Cert.Meet

open Idealize.ShloMosaic Idealize.ShloMosaic.TcCoe Idealize.ShloMosaic.Pointwise
open Cert.Spec (rS hS aS kE kS kI rE col freq)

attribute [local irreducible] Cert.Spec.kE Cert.Spec.kS Cert.Spec.kI Cert.Spec.rE

/-- An index of a four-dimensional array whose second axis is of one. -/
theorem split4 {a b e : ℕ} (i : Shape.Idx ⟨4, ![a, 1, b, e]⟩) : ∃ (r : Fin a) (g : Fin b) (l : Fin e), i = ix4 r 0 g l := by
  refine ⟨i 0, i 2, i 3, funext fun k => ?_⟩
  match k with
  | ⟨0, _⟩ => rfl
  | ⟨1, _⟩ => exact Fin.ext (Nat.lt_one_iff.mp (i 1).isLt)
  | ⟨2, _⟩ => rfl
  | ⟨3, _⟩ => rfl

/-- An index of a three-dimensional array whose second axis is of one. -/
theorem split3 {a b : ℕ} (i : Shape.Idx ⟨3, ![a, 1, b]⟩) : ∃ (r : Fin a) (g : Fin b), i = ix3 r 0 g := by
  refine ⟨i 0, i 2, funext fun k => ?_⟩
  match k with
  | ⟨0, _⟩ => rfl
  | ⟨1, _⟩ => exact Fin.ext (Nat.lt_one_iff.mp (i 1).isLt)
  | ⟨2, _⟩ => rfl

/-! ## Values -/

section
variable (x : Fin 256 → Fin 7168 → EReal) (nw : Fin 7168 → EReal) (hw : ∀ n, max (nw n) (-(nw n)) ≤ Ideal.ofBits FTy.f32 0x7F7F0000#32)
include hw

/-- The codes are equal. -/
theorem code_eq (r : Fin 256) (n : Fin 7168) : KernelIdeal.Run.codeAt x nw r n = ReferenceIdeal.Run.codeR x nw r n := by
  unfold KernelIdeal.Run.codeAt ReferenceIdeal.Run.codeR
  rw [(Cert.Spec.scales x nw hw r _).2]
  rfl

/-- The scaled codes are equal. -/
theorem xa_eq (r : Fin 256) (n : Fin 7168) :
    KernelIdeal.Run.xaAt x nw r n = ReferenceIdeal.Run.codeR x nw r n * Ideal.exp2 (rE (aS x nw r (ReferenceIdeal.Run.grp n))) := by
  unfold KernelIdeal.Run.xaAt
  rw [code_eq x nw hw, (Cert.Spec.scales x nw hw r _).1]
  rfl

end

/-- A rotation as the kernel finds it, of a head that starts at column `128 * q`, is the reference's. -/
theorem rot_eq (T : Fin 9216 → EReal) (C S : ℕ → EReal) (q : ℕ) (l : Fin 128) (n : Fin 9216) (hn : n.val = q * 128 + l.val) (t : Fin 128 → EReal)
    (ht : ∀ (j : Fin 128) (N : Fin 9216), N.val = q * 128 + j.val → t j = T N) :
    T n * C (n.val % 128 % 64) + T (KernelIdeal.Run.mate n) * (if n.val % 128 < 64 then 0 - S (n.val % 128 % 64) else S (n.val % 128 % 64))
      = ReferenceIdeal.Run.rotR t (fun j => C j.val) (fun j => S j.val) l := by
  have hl := l.isLt
  have hN := n.isLt
  have e : n.val % 128 = l.val := by omega
  have hm : (KernelIdeal.Run.mate n).val = q * 128 + (l.val + 64) % 128 := by
    show 128 * (n.val / 128) + (n.val % 128 + 64) % 128 = _
    omega
  rw [e]
  unfold ReferenceIdeal.Run.rotR
  by_cases h : l.val < 64
  · rw [if_pos h, dif_pos h, Nat.mod_eq_of_lt h, ht l n hn, ht ⟨64 + l.val, by omega⟩ (KernelIdeal.Run.mate n) (by rw [hm]; dsimp only; omega),
      zero_sub, mul_neg, ← sub_eq_add_neg]
  · rw [if_neg h, dif_neg h, show l.val % 64 = l.val - 64 by omega, ht l n hn,
      ht ⟨l.val - 64, by omega⟩ (KernelIdeal.Run.mate n) (by rw [hm]; dsimp only; omega)]

/-! ## From memories that agree on the arguments -/

section
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (hX : KernelIdeal.Run.gX m c = ReferenceIdeal.Run.gX m' c) (hN : KernelIdeal.Run.gN m c = ReferenceIdeal.Run.gN m' c)
  (hW : KernelIdeal.Run.gW m c = ReferenceIdeal.Run.gW m' c) (hS : KernelIdeal.Run.gS m c = ReferenceIdeal.Run.gS m' c)
  (hP : KernelIdeal.Run.gP m c = ReferenceIdeal.Run.gP m' c)
  (hw : ∀ n, max (KernelIdeal.Run.gN m c n) (-(KernelIdeal.Run.gN m c n)) ≤ Ideal.ofBits FTy.f32 0x7F7F0000#32)
include hX hN hW hS hw

/-- The projections are equal. -/
theorem prj_eq (r : Fin 256) (n : Fin 9216) :
    KernelIdeal.Run.prj m c r n = ReferenceIdeal.Run.prjR (ReferenceIdeal.Run.gX m' c) (ReferenceIdeal.Run.gN m' c) (ReferenceIdeal.Run.gW m' c) (ReferenceIdeal.Run.gS m' c) r n := by
  unfold KernelIdeal.Run.prj ReferenceIdeal.Run.prjR
  rw [← hX, ← hN, ← hW, ← hS]
  refine congrArg (· * _) (Finset.sum_congr rfl fun k _ => ?_)
  rw [xa_eq _ _ hw]

include hP

/-- A rotated head's lane is the reference's. -/
theorem out_eq (r : Fin 256) (n : Fin 9216) (h8 : n.val < 8192) (q : ℕ) (l : Fin 128) (hn : n.val = q * 128 + l.val) (t : Fin 128 → EReal)
    (ht : ∀ (j : Fin 128) (N : Fin 9216), N.val = q * 128 + j.val →
      t j = ReferenceIdeal.Run.prjR (ReferenceIdeal.Run.gX m' c) (ReferenceIdeal.Run.gN m' c) (ReferenceIdeal.Run.gW m' c) (ReferenceIdeal.Run.gS m' c) r N) :
    KernelIdeal.Run.outAt m c r n = ReferenceIdeal.Run.rotR t (ReferenceIdeal.Run.csR (ReferenceIdeal.Run.gP m' c r) (ReferenceIdeal.Run.gF m' c))
      (ReferenceIdeal.Run.snR (ReferenceIdeal.Run.gP m' c r) (ReferenceIdeal.Run.gF m' c)) l := by
  have hF : ReferenceIdeal.Run.gF m' c = fun j : Fin 64 => freq j.val := funext fun j => ReferenceIdeal.Run.gF_eq m' c j
  unfold KernelIdeal.Run.outAt KernelIdeal.Run.csAt KernelIdeal.Run.snAt
  rw [if_pos h8, KernelIdeal.Run.gF_eq, hP, hF]
  exact rot_eq (KernelIdeal.Run.prj m c r) (fun j => Ideal.cos (FloatOps.sitofp (F := Ideal) FTy.f32 (ReferenceIdeal.Run.gP m' c r) * freq j))
    (fun j => Ideal.sin (FloatOps.sitofp (F := Ideal) FTy.f32 (ReferenceIdeal.Run.gP m' c r) * freq j)) q l n hn t
    (fun j N hN' => (ht j N hN').trans (prj_eq m m' c hX hN hW hS hw r N).symm)

/-- The queries. -/
theorem q_eq : ReferenceIdeal.Run.G6 m' c = Pipeline.afterTail₀ KernelIdeal.cfgs (KernelIdeal.Run.dats m) 0 (KernelIdeal.Gen.V0 m) [KernelIdeal.Gen.hostOps1] c KernelIdeal.main_v15 := by
  funext i
  obtain ⟨r, g, l, rfl⟩ := split4 (b := 56) i
  have hg := g.isLt
  have hl := l.isLt
  refine Eq.trans ?_ (KernelIdeal.Run.main_v15_at m c r g l).symm
  refine ((out_eq m m' c hX hN hW hS hP hw r ⟨g.val * 128 + l.val, by omega⟩ (by dsimp only; omega) (g.val) l (rfl) _ ?_)).symm
  intro j N hN'
  exact congrArg (ReferenceIdeal.Run.prjR _ _ _ _ r) (Fin.ext (show g.val * 128 + j.val = N.val by omega))

/-- The keys. -/
theorem k_eq : ReferenceIdeal.Run.G7 m' c = Pipeline.afterTail₀ KernelIdeal.cfgs (KernelIdeal.Run.dats m) 0 (KernelIdeal.Gen.V0 m) [KernelIdeal.Gen.hostOps1] c KernelIdeal.main_v17 := by
  funext i
  obtain ⟨r, g, l, rfl⟩ := split4 (b := 8) i
  have hg := g.isLt
  have hl := l.isLt
  refine Eq.trans ?_ (KernelIdeal.Run.main_v17_at m c r g l).symm
  refine ((out_eq m m' c hX hN hW hS hP hw r ⟨7168 + (g.val * 128 + l.val), by omega⟩ (by dsimp only; omega) (56 + g.val) l (by dsimp only; omega) _ ?_)).symm
  intro j N hN'
  exact congrArg (ReferenceIdeal.Run.prjR _ _ _ _ r) (Fin.ext (show 7168 + (g.val * 128 + j.val) = N.val by omega))

omit hP in
/-- The values. -/
theorem v_eq : ReferenceIdeal.Run.G8 m' c = Pipeline.afterTail₀ KernelIdeal.cfgs (KernelIdeal.Run.dats m) 0 (KernelIdeal.Gen.V0 m) [KernelIdeal.Gen.hostOps1] c KernelIdeal.main_v19 := by
  funext i
  obtain ⟨r, g, l, rfl⟩ := split4 (b := 8) i
  refine Eq.trans ?_ (KernelIdeal.Run.main_v19_at m c r g l).symm
  unfold KernelIdeal.Run.outAt
  rw [if_neg (by dsimp only; omega)]
  exact (prj_eq m m' c hX hN hW hS hw r _).symm

omit hW hS hP in
/-- The codes. -/
theorem codes_eq : ReferenceIdeal.Run.G9 m' c = Pipeline.afterTail₀ KernelIdeal.cfgs (KernelIdeal.Run.dats m) 0 (KernelIdeal.Gen.V0 m) [KernelIdeal.Gen.hostOps1] c KernelIdeal.main_v20 := by
  funext i
  obtain ⟨r, g, rfl⟩ := split3 (b := 7168) i
  refine Eq.trans ?_ (KernelIdeal.Run.main_v20_at m c r g).symm
  rw [code_eq _ _ hw, hX, hN]
  rfl

omit hW hS hP in
/-- The codes' scales. -/
theorem scale_eq : ReferenceIdeal.Run.G10 m' c = Pipeline.afterTail₀ KernelIdeal.cfgs (KernelIdeal.Run.dats m) 0 (KernelIdeal.Gen.V0 m) [KernelIdeal.Gen.hostOps1] c KernelIdeal.main_v21 := by
  funext i
  obtain ⟨r, g, rfl⟩ := split3 (b := 56) i
  refine Eq.trans ?_ (KernelIdeal.Run.main_v21_at m c r g).symm
  rw [(Cert.Spec.scales _ _ hw _ _).1, hX, hN]
  rfl

end

end Cert.Meet

end
-- ==== Proof.lean ====
module

public import proofs.«01_k».proof.Defs
public import proofs.«01_k».proof.Proof.Gen.Kernel
public import proofs.«01_k».proof.Proof.Bits.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.Pre_norm_w_is_finite
public import proofs.«01_k».proof.Proof.Value.Meet

@[expose] public section

namespace Cert.Proof

open Idealize.ShloMosaic Idealize.ShloMosaic.TcCoe Idealize.ShloMosaic.Pointwise Idealize.SL.Sem

/-- A one-bit word that is one came of `true`. -/
theorem true_of_ofBool {b : Bool} (h : BitVec.ofBool b = 1#1) : b = true := by
  cases b
  · exact absurd h (by decide)
  · rfl

/-- What the precondition says of the norm's weights: none is larger in size than the largest finite bf16 number. -/
theorem weight_le (m : (ℓ : Loc KernelIdeal.nD KernelIdeal.τ KernelIdeal.sig) → Buf (Elt Ideal) ℓ)
    (h : Pre_KernelIdeal_norm_w_is_finite (hPre_norm_w_is_finite := Pre_norm_w_is_finite.Gen.facts) m) (c : Dev KernelIdeal.nD) (n : Fin 7168) :
    max (KernelIdeal.Run.gN m c n) (-(KernelIdeal.Run.gN m c n)) ≤ Ideal.ofBits FTy.f32 0x7F7F0000#32 := by
  have e := congrFun (h c) (ix1 n)
  rw [KernelIdeal.Run.gN_eq]
  exact of_decide_eq_true (true_of_ofBool e)

/-- `algebraic`: from memories that agree on the arguments, the kernel's five results are the reference's. -/
theorem algebraic : algebraic_KernelIdeal_ReferenceIdeal_pre_norm_w_is_finite (hKernelIdeal := KernelIdeal.Gen.facts)
    (hReferenceIdeal := ReferenceIdeal.Gen.facts) (hPre_norm_w_is_finite := Pre_norm_w_is_finite.Gen.facts) := by
  intro m g m' g' hpre hargs
  have hX : ∀ c, KernelIdeal.Run.gX m c = ReferenceIdeal.Run.gX m' c := fun c => funext fun r => funext fun n => by
    rw [KernelIdeal.Run.gX_eq, ReferenceIdeal.Run.gX_eq]
    exact (congrFun (hargs c).1 _).symm
  have hN : ∀ c, KernelIdeal.Run.gN m c = ReferenceIdeal.Run.gN m' c := fun c => funext fun n => by
    rw [KernelIdeal.Run.gN_eq, ReferenceIdeal.Run.gN_eq]
    exact (congrFun (hargs c).2.1 _).symm
  have hW : ∀ c, KernelIdeal.Run.gW m c = ReferenceIdeal.Run.gW m' c := fun c => funext fun k => funext fun n => by
    rw [KernelIdeal.Run.gW_eq, ReferenceIdeal.Run.gW_eq]
    exact (congrFun (hargs c).2.2.1 _).symm
  have hS : ∀ c, KernelIdeal.Run.gS m c = ReferenceIdeal.Run.gS m' c := fun c => funext fun n => by
    rw [KernelIdeal.Run.gS_eq, ReferenceIdeal.Run.gS_eq]
    exact (congrFun (hargs c).2.2.2.1 _).symm
  have hP : ∀ c, KernelIdeal.Run.gP m c = ReferenceIdeal.Run.gP m' c := fun c => funext fun r => by
    rw [KernelIdeal.Run.gP_eq, ReferenceIdeal.Run.gP_eq]
    exact (congrFun (hargs c).2.2.2.2 _).symm
  have hw := weight_le m hpre
  refine ⟨_, _, _, _, _, (θ_run _ _ _).mono (fun r h c => ⟨(h.1 c).1, (h.1 c).2.1, (h.1 c).2.2.1, (h.1 c).2.2.2.1, (h.1 c).2.2.2.2, h.2 c⟩)
      (θ_run_and (KernelIdeal.Run.run_results m g) (KernelIdeal.Run.unchanged m g)),
    (θ_run _ _ _).mono (fun r h c => ⟨(h.1 c).1.trans (Meet.q_eq m m' c (hX c) (hN c) (hW c) (hS c) (hP c) (hw c)),
        (h.1 c).2.1.trans (Meet.k_eq m m' c (hX c) (hN c) (hW c) (hS c) (hP c) (hw c)),
        (h.1 c).2.2.1.trans (Meet.v_eq m m' c (hX c) (hN c) (hW c) (hS c) (hw c)),
        (h.1 c).2.2.2.1.trans (Meet.codes_eq m m' c (hX c) (hN c) (hw c)),
        (h.1 c).2.2.2.2.trans (Meet.scale_eq m m' c (hX c) (hN c) (hw c)), h.2 c⟩)
      (θ_run_and (ReferenceIdeal.Run.run_results m' g') (ReferenceIdeal.Gen.unchanged m' g'))⟩

/-- Every claim: the three frames, the frames under the precondition, `preserves` and `algebraic`. -/
theorem claim : Cert.Claim :=
  ⟨Kernel.Gen.facts, KernelIdeal.Gen.facts, ReferenceIdeal.Gen.facts, Pre_norm_w_is_finite.Gen.facts,
    fun m ρ _ => Kernel.Run.frame m ρ, fun m ρ _ => KernelIdeal.Run.frame m ρ, fun m ρ _ => KernelIdeal.Run.frame m ρ,
    fun m ρ _ => ReferenceIdeal.Gen.frame m ρ, fun m ρ _ => ReferenceIdeal.Gen.frame m ρ, trivial, algebraic⟩

end Cert.Proof
